-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S1x2048x3 : Shape := ⟨3, ![1, 2048, 3]⟩
abbrev S2048x3 : Shape := ⟨2, ![2048, 3]⟩
abbrev S_ : Shape := ⟨0, ![]⟩
abbrev S2048 : Shape := ⟨1, ![2048]⟩
abbrev S2048x1 : Shape := ⟨2, ![2048, 1]⟩
abbrev S24576 : Shape := ⟨1, ![24576]⟩
abbrev S768 : Shape := ⟨1, ![768]⟩
abbrev S16 : Shape := ⟨1, ![16]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1 : Shape := ⟨1, ![1]⟩
abbrev S8x2048x8 : Shape := ⟨3, ![8, 2048, 8]⟩
abbrev S8x8x2048 : Shape := ⟨3, ![8, 8, 2048]⟩
abbrev S8x2048x16 : Shape := ⟨3, ![8, 2048, 16]⟩
abbrev S1x512x8 : Shape := ⟨3, ![1, 512, 8]⟩
abbrev S1x8x2048 : Shape := ⟨3, ![1, 8, 2048]⟩
abbrev S1x512x16 : Shape := ⟨3, ![1, 512, 16]⟩
abbrev S512x8 : Shape := ⟨2, ![512, 8]⟩
abbrev S8x2048 : Shape := ⟨2, ![8, 2048]⟩
abbrev S512 : Shape := ⟨1, ![512]⟩
abbrev S512x1 : Shape := ⟨2, ![512, 1]⟩
abbrev S1x2048 : Shape := ⟨2, ![1, 2048]⟩
abbrev S512x2048 : Shape := ⟨2, ![512, 2048]⟩
abbrev S512x16 : Shape := ⟨2, ![512, 16]⟩
abbrev S262144 : Shape := ⟨1, ![262144]⟩
abbrev S237568 : Shape := ⟨1, ![237568]⟩
abbrev S16384 : Shape := ⟨1, ![16384]⟩
abbrev S16384x1 : Shape := ⟨2, ![16384, 1]⟩
abbrev S16384x16 : Shape := ⟨2, ![16384, 16]⟩
abbrev S1x262144 : Shape := ⟨2, ![1, 262144]⟩
abbrev S2x262144 : Shape := ⟨2, ![2, 262144]⟩

abbrev nBuf : Table → Nat
  | .hbm => 30
  | .local .tc .vmem => 6
  | .local .scVector .vmem => 7
  | _ => 0

abbrev bufTy : (tb : Table) → Fin (nBuf tb) → BufTy
  | .hbm, ⟨0, _⟩ => ⟨S8x2048x3, .f32⟩
  | .hbm, ⟨1, _⟩ => ⟨S1x2048x3, .f32⟩
  | .hbm, ⟨2, _⟩ => ⟨S2048x3, .f32⟩
  | .hbm, ⟨3, _⟩ => ⟨S2048x3, .bf16⟩
  | .hbm, ⟨4, _⟩ => ⟨S2048x3, .f32⟩
  | .hbm, ⟨5, _⟩ => ⟨S2048x3, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048, .f32⟩
  | .hbm, ⟨10, _⟩ => ⟨S2048x1, .f32⟩
  | .hbm, ⟨11, _⟩ => ⟨S2048, .f32⟩
  | .hbm, ⟨12, _⟩ => ⟨S2048x1, .f32⟩
  | .hbm, ⟨13, _⟩ => ⟨S2048, .f32⟩
  | .hbm, ⟨14, _⟩ => ⟨S24576, .i32⟩
  | .hbm, ⟨15, _⟩ => ⟨S_, .i32⟩
  | .hbm, ⟨16, _⟩ => ⟨S_, .f32⟩
  | .hbm, ⟨17, _⟩ => ⟨S8x2048x8, .f32⟩
  | .hbm, ⟨18, _⟩ => ⟨S8x8x2048, .f32⟩
  | .hbm, ⟨19, _⟩ => ⟨S8x2048x16, .i32⟩
  | .hbm, ⟨20, _⟩ => ⟨S262144, .i32⟩
  | .hbm, ⟨21, _⟩ => ⟨S237568, .i32⟩
  | .hbm, ⟨22, _⟩ => ⟨S262144, .i32⟩
  | .hbm, ⟨23, _⟩ => ⟨S16384, .i32⟩
  | .hbm, ⟨24, _⟩ => ⟨S16384x1, .i32⟩
  | .hbm, ⟨25, _⟩ => ⟨S16384x16, .i32⟩
  | .hbm, ⟨26, _⟩ => ⟨S262144, .i32⟩
  | .hbm, ⟨27, _⟩ => ⟨S1x262144, .i32⟩
  | .hbm, ⟨28, _⟩ => ⟨S1x262144, .i32⟩
  | .hbm, ⟨29, _⟩ => ⟨S2x262144, .i32⟩
  | .local .tc .vmem, ⟨0, _⟩ => ⟨S1x512x8, .f32⟩
  | .local .tc .vmem, ⟨1, _⟩ => ⟨S1x512x8, .f32⟩
  | .local .tc .vmem, ⟨2, _⟩ => ⟨S1x8x2048, .f32⟩
  | .local .tc .vmem, ⟨3, _⟩ => ⟨S1x8x2048, .f32⟩
  | .local .tc .vmem, ⟨4, _⟩ => ⟨S1x512x16, .i32⟩
  | .local .tc .vmem, ⟨5, _⟩ => ⟨S1x512x16, .i32⟩
  | .local .scVector .vmem, ⟨0, _⟩ => ⟨S2048, .f32⟩
  | .local .scVector .vmem, ⟨1, _⟩ => ⟨S2048, .f32⟩
  | .local .scVector .vmem, ⟨2, _⟩ => ⟨S2048, .f32⟩
  | .local .scVector .vmem, ⟨3, _⟩ => ⟨S2048, .f32⟩
  | .local .scVector .vmem, ⟨4, _⟩ => ⟨S768, .i32⟩
  | .local .scVector .vmem, ⟨5, _⟩ => ⟨S16, .f32⟩
  | .local .scVector .vmem, ⟨6, _⟩ => ⟨S16, .i32⟩
  | _, _ => ⟨S8x2048x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v7_scv : Ref sig .scVector := ⟨.hbm, 9, rfl⟩
abbrev main_v9_scv : Ref sig .scVector := ⟨.hbm, 11, rfl⟩
abbrev main_v11_scv : Ref sig .scVector := ⟨.hbm, 13, rfl⟩
abbrev main_v5_scv : Ref sig .scVector := ⟨.hbm, 7, rfl⟩
abbrev main_v12_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c48_i32_1 : BitVec 32 := 48#32
  let v4 : BitVec 32 := Scalar.addi c0_i32_0 c48_i32_1
  let c1_i32 : BitVec 32 := 1#32
  ⟨c0_i32_0, v4, c1_i32⟩

def k0_chk1 (v9 : IVec S16 32) : Prop :=
  (∀ a x, ((![v9] : Fin 1 → IVec S16 32) a x).toNat < S2048.size a) ∧
  (∀ a x, ((![v9] : Fin 1 → IVec S16 32) a x).toNat < S2048.size a) ∧
  (∀ a x, ((![v9] : Fin 1 → IVec S16 32) a x).toNat < S2048.size a) ∧
  (∀ a x, ((![v9] : Fin 1 → IVec S16 32) a x).toNat < S2048.size a)
theorem k0_idx1_inb : ∀ (v9 : IVec S16 32) (k0_hw1 : k0_chk1 v9), ∀ a x, ((![v9] : Fin 1 → IVec S16 32) a x).toNat < S2048.size a := fun v9 k0_hw1 => k0_hw1.1
theorem k0_idx2_inb : ∀ (v9 : IVec S16 32) (k0_hw1 : k0_chk1 v9), ∀ a x, ((![v9] : Fin 1 → IVec S16 32) a x).toNat < S2048.size a := fun v9 k0_hw1 => k0_hw1.2.1
theorem k0_idx3_inb : ∀ (v9 : IVec S16 32) (k0_hw1 : k0_chk1 v9), ∀ a x, ((![v9] : Fin 1 → IVec S16 32) a x).toNat < S2048.size a := fun v9 k0_hw1 => k0_hw1.2.2.1
theorem k0_idx4_inb : ∀ (v9 : IVec S16 32) (k0_hw1 : k0_chk1 v9), ∀ a x, ((![v9] : Fin 1 → IVec S16 32) a x).toNat < S2048.size a := fun v9 k0_hw1 => k0_hw1.2.2.2
@[reducible] def k0_t2_loop : Scf.Loop 32 :=
  let c0_i32_9 : BitVec 32 := 0#32
  let c128_i32 : BitVec 32 := 128#32
  let v24 : BitVec 32 := Scalar.addi c0_i32_9 c128_i32
  let c1_i32_10 : BitVec 32 := 1#32
  ⟨c0_i32_9, v24, c1_i32_10⟩
def k0_mult1 (k0_t2 : Fin k0_t2_loop.trips) : BitVec 32 :=
  let c0_i32_9 : BitVec 32 := 0#32
  let c1_i32_10 : BitVec 32 := 1#32
  let arg15 : BitVec 32 := Scf.iv c0_i32_9 c1_i32_10 k0_t2
  let c16_i32_14 : BitVec 32 := 16#32
  let v34 : BitVec 32 := Scalar.muli arg15 c16_i32_14
  v34
def k0_off1 (k0_t2 : Fin k0_t2_loop.trips) : Fin 1 → Nat :=
  let c0_i32_9 : BitVec 32 := 0#32
  let c1_i32_10 : BitVec 32 := 1#32
  let arg15 : BitVec 32 := Scf.iv c0_i32_9 c1_i32_10 k0_t2
  let c16_i32_14 : BitVec 32 := 16#32
  let v34 : BitVec 32 := Scalar.muli arg15 c16_i32_14
  let v35 : BitVec 32 := v34
  let v36 : Index := Scalar.indexCast v35
  ![v36.toNat]
def k0_off2 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32_13 : BitVec 32 := 16#32
  let v29 : BitVec 32 := Scalar.muli arg14 c16_i32_13
  let v30 : Index := Scalar.indexCast v29
  ![v30.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_3 : BitVec 32 := 48#32
  let v5 : BitVec 32 := Scalar.muli v1 c48_i32_3
  let c16_i32 : BitVec 32 := 16#32
  let v6 : BitVec 32 := Scalar.muli v5 c16_i32
  ![v6.toNat]
abbrev grid1 : Pipeline.Grid := ⟨1, ![29], ![false]⟩

def cc1_transform_0 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_1 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage1_0 : Fin 2 → Memref sig .tc .vmem S1x512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x3 : Shape := ⟨3, ![8, 2048, 3]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S8x2048x16 : Shape := ⟨3, ![8, 2048, 16]⟩
abbrev S8 : Shape := ⟨1, ![8]⟩
abbrev S8x1x1 : Shape := ⟨3, ![8, 1, 1]⟩
abbrev S2048 : Shape := ⟨1, ![2048]⟩
abbrev S1x2048x1 : Shape := ⟨3, ![1, 2048, 1]⟩
abbrev S262144 : Shape := ⟨1, ![262144]⟩
abbrev S1x262144 : Shape := ⟨2, ![1, 262144]⟩
abbrev S2x262144 : Shape := ⟨2, ![2, 262144]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S_, .f32⟩
  | .hbm, ⟨3, _⟩ => ⟨S8x2048, .f32⟩
  | .hbm, ⟨4, _⟩ => ⟨S8x2048x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x16, .f32⟩
  | .hbm, ⟨16, _⟩ => ⟨S8x2048x16, .i32⟩
  | .hbm, ⟨17, _⟩ => ⟨S8, .i32⟩
  | .hbm, ⟨18, _⟩ => ⟨S8x1x1, .i32⟩
  | .hbm, ⟨19, _⟩ => ⟨S_, .i32⟩
  | .hbm, ⟨20, _⟩ => ⟨S8x1x1, .i32⟩
  | .hbm, ⟨21, _⟩ => ⟨S8x1x1, .i32⟩
  | .hbm, ⟨22, _⟩ => ⟨S2048, .i32⟩
  | .hbm, ⟨23, _⟩ => ⟨S1x2048x1, .i32⟩
  | .hbm, ⟨24, _⟩ => ⟨S8x2048x1, .i32⟩
  | .hbm, ⟨25, _⟩ => ⟨S8x2048x1, .i32⟩
  | .hbm, ⟨26, _⟩ => ⟨S8x2048x1, .i32⟩
  | .hbm, ⟨27, _⟩ => ⟨S8x2048x16, .i32⟩
  | .hbm, ⟨28, _⟩ => ⟨S262144, .i32⟩
  | .hbm, ⟨29, _⟩ => ⟨S8x2048x16, .i32⟩
  | .hbm, ⟨30, _⟩ => ⟨S8x2048x16, .i32⟩
  | .hbm, ⟨31, _⟩ => ⟨S262144, .i32⟩
  | .hbm, ⟨32, _⟩ => ⟨S1x262144, .i32⟩
  | .hbm, ⟨33, _⟩ => ⟨S1x262144, .i32⟩
  | .hbm, ⟨34, _⟩ => ⟨S2x262144, .i32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.Net.lean ====
module

public import proofs.«01_k».proof.Proof.Gen.KernelIdeal.Skeleton

@[expose] public section

noncomputable section

/-! The vector operations of the SparseCore kernel, said once over a pair of registers (keys and
   indices): the exchange of lanes at distance `s`, one compare-exchange stage of the sort, one stage
   of the merge; and each group of the kernel's values as such a stage of the values before it. -/

namespace Cert.Proof

open Idealize.ShloMosaic Cert.KernelIdeal Cert.KernelIdeal.Gen

variable {F : FTy → Type} [FloatOps F] {α : Type}

/-- The lane numbers 0 … 15. -/
abbrev lane16 : IVec S16 32 := iota .scVector S16 32 [0] iota_S16_d0_w32_scVector

/-- The register rotated down by 1: lane `l` holds lane `l + 1`, the last 1 hold the first. -/
def up1 (x : S16.Idx → α) : S16.Idx → α :=
  concatenate S16 0 [⟨S15, extractStridedSlice S15 ![1] x slices_S16_o1_S15⟩,
    ⟨S1, extractStridedSlice S1 ![0] x slices_S16_o0_S1⟩] concatenates_S15_S1_S16_d0

/-- The register rotated up by 1: lane `l` holds lane `l - 1`, the first 1 hold the last. -/
def dn1 (x : S16.Idx → α) : S16.Idx → α :=
  concatenate S16 0 [⟨S1, extractStridedSlice S1 ![15] x slices_S16_o15_S1⟩,
    ⟨S15, extractStridedSlice S15 ![0] x slices_S16_o0_S15⟩] concatenates_S1_S15_S16_d0

/-- The register rotated down by 2: lane `l` holds lane `l + 2`, the last 2 hold the first. -/
def up2 (x : S16.Idx → α) : S16.Idx → α :=
  concatenate S16 0 [⟨S14, extractStridedSlice S14 ![2] x slices_S16_o2_S14⟩,
    ⟨S2, extractStridedSlice S2 ![0] x slices_S16_o0_S2⟩] concatenates_S14_S2_S16_d0

/-- The register rotated up by 2: lane `l` holds lane `l - 2`, the first 2 hold the last. -/
def dn2 (x : S16.Idx → α) : S16.Idx → α :=
  concatenate S16 0 [⟨S2, extractStridedSlice S2 ![14] x slices_S16_o14_S2⟩,
    ⟨S14, extractStridedSlice S14 ![0] x slices_S16_o0_S14⟩] concatenates_S2_S14_S16_d0

/-- The register rotated down by 4: lane `l` holds lane `l + 4`, the last 4 hold the first. -/
def up4 (x : S16.Idx → α) : S16.Idx → α :=
  concatenate S16 0 [⟨S12, extractStridedSlice S12 ![4] x slices_S16_o4_S12⟩,
    ⟨S4, extractStridedSlice S4 ![0] x slices_S16_o0_S4⟩] concatenates_S12_S4_S16_d0

/-- The register rotated up by 4: lane `l` holds lane `l - 4`, the first 4 hold the last. -/
def dn4 (x : S16.Idx → α) : S16.Idx → α :=
  concatenate S16 0 [⟨S4, extractStridedSlice S4 ![12] x slices_S16_o12_S4⟩,
    ⟨S12, extractStridedSlice S12 ![0] x slices_S16_o0_S12⟩] concatenates_S4_S12_S16_d0

/-- The register rotated down by 8: lane `l` holds lane `l + 8`, the last 8 hold the first. -/
def up8 (x : S16.Idx → α) : S16.Idx → α :=
  concatenate S16 0 [⟨S8, extractStridedSlice S8 ![8] x slices_S16_o8_S8⟩,
    ⟨S8, extractStridedSlice S8 ![0] x slices_S16_o0_S8⟩] concatenates_S8_S8_S16_d0

/-- The register rotated up by 8: lane `l` holds lane `l - 8`, the first 8 hold the last. -/
def dn8 (x : S16.Idx → α) : S16.Idx → α :=
  concatenate S16 0 [⟨S8, extractStridedSlice S8 ![8] x slices_S16_o8_S8⟩,
    ⟨S8, extractStridedSlice S8 ![0] x slices_S16_o0_S8⟩] concatenates_S8_S8_S16_d0

/-- The lanes whose number has the bit `s` clear. -/
def bit0 (s : BitVec 32) : IVec S16 1 :=
  cmpi .eq (andi lane16 (broadcast S16 s)) (broadcast S16 0#32)

/-- Lane `l` holds lane `l xor 1`. -/
def xr1 (x : S16.Idx → α) : S16.Idx → α := select (bit0 1#32) (up1 x) (dn1 x)

/-- Lane `l` holds lane `l xor 2`. -/
def xr2 (x : S16.Idx → α) : S16.Idx → α := select (bit0 2#32) (up2 x) (dn2 x)

/-- Lane `l` holds lane `l xor 4`. -/
def xr4 (x : S16.Idx → α) : S16.Idx → α := select (bit0 4#32) (up4 x) (dn4 x)

/-- Lane `l` holds lane `l xor 8`. -/
def xr8 (x : S16.Idx → α) : S16.Idx → α := select (bit0 8#32) (up8 x) (dn8 x)

/-- A mask as the words one and zero. -/
def b2i (m : IVec S16 1) : IVec S16 32 := select m k0_pay1 k0_pay2

/-- Where the pair `(k, v)` is below the pair `(k', v')`, as a word. -/
def pairLt (k k' : FVec F S16 .f32) (v v' : IVec S16 32) : IVec S16 32 :=
  ori (b2i (cmpf .olt k k')) (andi (b2i (cmpf .oeq k k')) (b2i (cmpi .slt v v')))

/-- A register of keys with a register of indices. -/
abbrev KV (F : FTy → Type) := FVec F S16 .f32 × IVec S16 32

/-- The lanes of `st` where `mm` is zero, the lanes of `p` elsewhere. -/
def pick (mm : IVec S16 32) (st p : KV F) : KV F :=
  (select (cmpi .eq mm (broadcast S16 0#32)) st.1 p.1, select (cmpi .eq mm (broadcast S16 0#32)) st.2 p.2)

/-- A compare-exchange stage of the sort against the partner register `p`: blocks of `k` lanes
   ascending and descending in turn, the partner at distance `s`. -/
def csOf (s k : BitVec 32) (st p : KV F) : KV F :=
  pick (xori (xori (xori k0_pay1 (b2i (bit0 s))) (b2i (bit0 k))) (pairLt st.1 p.1 st.2 p.2)) st p

/-- A stage of the merge against the partner register `p`: the lane of the pair with bit `s` clear
   keeps the lesser. -/
def msOf (s : BitVec 32) (st p : KV F) : KV F :=
  pick (xori (b2i (bit0 s)) (pairLt st.1 p.1 st.2 p.2)) st p

/-- The sort's stage at distance 1 in blocks of `k`. -/
def cs1 (k : BitVec 32) (st : KV F) : KV F := csOf 1#32 k st (xr1 st.1, xr1 st.2)

/-- The merge's stage at distance 1. -/
def ms1 (st : KV F) : KV F := msOf 1#32 st (xr1 st.1, xr1 st.2)

/-- The sort's stage at distance 2 in blocks of `k`. -/
def cs2 (k : BitVec 32) (st : KV F) : KV F := csOf 2#32 k st (xr2 st.1, xr2 st.2)

/-- The merge's stage at distance 2. -/
def ms2 (st : KV F) : KV F := msOf 2#32 st (xr2 st.1, xr2 st.2)

/-- The sort's stage at distance 4 in blocks of `k`. -/
def cs4 (k : BitVec 32) (st : KV F) : KV F := csOf 4#32 k st (xr4 st.1, xr4 st.2)

/-- The merge's stage at distance 4. -/
def ms4 (st : KV F) : KV F := msOf 4#32 st (xr4 st.1, xr4 st.2)

/-- The sort's stage at distance 8 in blocks of `k`. -/
def cs8 (k : BitVec 32) (st : KV F) : KV F := csOf 8#32 k st (xr8 st.1, xr8 st.2)

/-- The merge's stage at distance 8. -/
def ms8 (st : KV F) : KV F := msOf 8#32 st (xr8 st.1, xr8 st.2)

/-- The register reversed. -/
def rev16 (x : S16.Idx → α) : S16.Idx → α := xr1 (xr2 (xr4 (xr8 x)))

/-- The sixteen pairs sorted, as ten stages. -/
def sort16 (st : KV F) : KV F :=
  cs1 16#32 (cs2 16#32 (cs4 16#32 (cs8 16#32 (cs1 8#32 (cs2 8#32 (cs4 8#32 (cs1 4#32 (cs2 4#32 (cs1 2#32 st)))))))))

/-- The lesser key lane by lane. -/
def tk1 (b c : FVec F S16 .f32) : FVec F S16 .f32 := select (cmpf .ole b c) b c

/-- The index that goes with the lesser key. -/
def tk2 (b c : FVec F S16 .f32) (i j : IVec S16 32) : IVec S16 32 := select (cmpf .ole b c) i j

/-- The lower halves of the sixteen best `b` and of a sorted register `c` read backwards. -/
def take16 (b c : KV F) : KV F := (tk1 b.1 (rev16 c.1), tk2 b.1 (rev16 c.1) b.2 (rev16 c.2))

/-- The sixteen best after a chunk `c`. -/
def merge16 (b c : KV F) : KV F := ms1 (ms2 (ms4 (ms8 (take16 b (sort16 c)))))

/-- The least of the lane's and its partners' keys, over all lanes. -/
def min16 (d : FVec F S16 .f32) : FVec F S16 .f32 :=
  let a := minimumf d (xr8 d)
  let b := minimumf a (xr4 a)
  let c := minimumf b (xr2 b)
  minimumf c (xr1 c)

/-- The index of the lane `l`. -/
def ln (l : Fin 16) : S16.Idx := fun a => match a with | ⟨0, _⟩ => l

/-- Whether a chunk holds a key below the worst of the sixteen best. -/
def better (d : FVec F S16 .f32) (b : FVec F S16 .f32) : BitVec 1 :=
  Scalar.cmpf .olt (min16 d (ln 0)) (b (ln 15))

/-- The sixteen best after one chunk of distances `d`, the chunk's number `c`. -/
def chunk (c : BitVec 32) (d : FVec F S16 .f32) (b : KV F) : KV F :=
  if better d b.1 = 1#1 then merge16 b (d, k0_pay12 lane16 c) else b

/-- The distances of one chunk from the row's coordinates and square and the chunk's. -/
def dist16 (x y z q X Y Z Q : FVec F S16 .f32) : FVec F S16 .f32 :=
  subf (addf q Q) (mulf (broadcast S16 (Scalar.ofBits .f32 0x40000000#32)) (addf (addf (mulf x X) (mulf y Y)) (mulf z Z)))

theorem shapeCast_S16 (x : S16.Idx → α) : shapeCast S16 x shapeCasts_S16_S16 = x := by
  funext j
  exact congrArg x (by simp only [Shape.reshapeEquiv]; first | rfl | simp)

set_option maxRecDepth 4000

/-! Each group of the kernel's values, as a stage of the values before it. -/

theorem pay16_eq (c : BitVec 32) (d : FVec F S16 .f32) : k0_pay16 lane16 k0_pay1 k0_pay2 c d = (cs1 2#32 (d, k0_pay12 lane16 c)).1 := rfl

theorem pay17_eq (c : BitVec 32) (d : FVec F S16 .f32) : k0_pay17 lane16 k0_pay1 k0_pay2 c d = (cs1 2#32 (d, k0_pay12 lane16 c)).2 := rfl

theorem pay21_eq (st : KV F) : k0_pay21 lane16 k0_pay1 k0_pay2 (st.1) (st.2) = (cs2 4#32 st).1 := rfl

theorem pay22_eq (st : KV F) : k0_pay22 lane16 k0_pay1 k0_pay2 (st.1) (st.2) = (cs2 4#32 st).2 := rfl

theorem pay23_eq (st : KV F) : k0_pay23 lane16 k0_pay1 k0_pay2 (st.1) (st.2) = up1 (cs2 4#32 st).1 := rfl

theorem pay24_eq (st : KV F) : k0_pay24 lane16 k0_pay1 k0_pay2 (st.1) (st.2) = extractStridedSlice S1 ![15] (cs2 4#32 st).1 slices_S16_o15_S1 := rfl

theorem pay28_eq (st : KV F) : k0_pay28 lane16 k0_pay1 k0_pay2 (st.1) (st.2) (up1 st.1) (extractStridedSlice S1 ![15] st.1 slices_S16_o15_S1) = (cs1 4#32 st).1 := rfl

theorem pay29_eq (st : KV F) : k0_pay29 lane16 k0_pay1 k0_pay2 (st.1) (st.2) (up1 st.1) (extractStridedSlice S1 ![15] st.1 slices_S16_o15_S1) = (cs1 4#32 st).2 := rfl

theorem pay30_eq (st : KV F) : k0_pay30 lane16 k0_pay1 k0_pay2 (st.1) (st.2) (up1 st.1) (extractStridedSlice S1 ![15] st.1 slices_S16_o15_S1) = up4 (cs1 4#32 st).1 := rfl

theorem pay31_eq (st : KV F) : k0_pay31 lane16 k0_pay1 k0_pay2 (st.1) (st.2) (up1 st.1) (extractStridedSlice S1 ![15] st.1 slices_S16_o15_S1) = dn4 (cs1 4#32 st).1 := rfl

theorem pay36_eq (st : KV F) : k0_pay36 lane16 k0_pay1 k0_pay2 (st.1) (st.2) (up4 st.1) (dn4 st.1) k0_pay32 = (cs4 8#32 st).1 := rfl

theorem pay37_eq (st : KV F) : k0_pay37 lane16 k0_pay1 k0_pay2 (st.1) (st.2) (up4 st.1) (dn4 st.1) k0_pay32 = (cs4 8#32 st).2 := rfl

theorem pay38_eq (st : KV F) : k0_pay38 lane16 k0_pay1 k0_pay2 (st.1) (st.2) (up4 st.1) (dn4 st.1) k0_pay32 = up2 (cs4 8#32 st).1 := rfl

theorem pay39_eq (st : KV F) : k0_pay39 lane16 k0_pay1 k0_pay2 (st.1) (st.2) (up4 st.1) (dn4 st.1) k0_pay32 = dn2 (cs4 8#32 st).1 := rfl

theorem pay44_eq (st : KV F) : k0_pay44 lane16 k0_pay1 k0_pay2 (st.1) (st.2) (up2 st.1) (dn2 st.1) (k0_pay40 lane16) = (cs2 8#32 st).1 := rfl

theorem pay45_eq (st : KV F) : k0_pay45 lane16 k0_pay1 k0_pay2 (st.1) (st.2) (up2 st.1) (dn2 st.1) (k0_pay40 lane16) = (cs2 8#32 st).2 := rfl

theorem pay46_eq (st : KV F) : k0_pay46 lane16 k0_pay1 k0_pay2 (st.1) (st.2) (up2 st.1) (dn2 st.1) (k0_pay40 lane16) = xr1 (cs2 8#32 st).1 := rfl

theorem pay47_eq (st : KV F) : k0_pay47 lane16 k0_pay1 k0_pay2 (st.1) (st.2) (up2 st.1) (dn2 st.1) (k0_pay40 lane16) = up1 (cs2 8#32 st).2 := rfl

theorem pay50_eq (st : KV F) : k0_pay50 lane16 k0_pay1 k0_pay2 (st.1) (st.2) (xr1 st.1) (up1 st.2) = (cs1 8#32 st).1 := rfl

theorem pay51_eq (st : KV F) : k0_pay51 lane16 k0_pay1 k0_pay2 (st.1) (st.2) (xr1 st.1) (up1 st.2) = (cs1 8#32 st).2 := rfl

theorem pay52_eq (st : KV F) : k0_pay52 lane16 k0_pay1 k0_pay2 (st.1) (st.2) (xr1 st.1) (up1 st.2) = xr8 (cs1 8#32 st).1 := rfl

theorem pay53_eq (st : KV F) : k0_pay53 lane16 k0_pay1 k0_pay2 (st.1) (st.2) (xr1 st.1) (up1 st.2) = up8 (cs1 8#32 st).2 := rfl

theorem pay54_eq (st : KV F) : k0_pay54 lane16 k0_pay1 k0_pay2 (st.1) (st.2) (xr1 st.1) (up1 st.2) = dn8 (cs1 8#32 st).2 := rfl

theorem pay57_eq (st : KV F) : k0_pay57 lane16 k0_pay1 k0_pay2 (st.1) (st.2) (xr8 st.1) (up8 st.2) (dn8 st.2) (8#32) = (cs8 16#32 st).1 := rfl

theorem pay58_eq (st : KV F) : k0_pay58 lane16 k0_pay1 k0_pay2 (st.1) (st.2) (xr8 st.1) (up8 st.2) (dn8 st.2) (8#32) = (cs8 16#32 st).2 := rfl

theorem pay59_eq (st : KV F) : k0_pay59 lane16 k0_pay1 k0_pay2 (st.1) (st.2) (xr8 st.1) (up8 st.2) (dn8 st.2) (8#32) = xr4 (cs8 16#32 st).1 := rfl

theorem pay60_eq (st : KV F) : k0_pay60 lane16 k0_pay1 k0_pay2 (st.1) (st.2) (xr8 st.1) (up8 st.2) (dn8 st.2) (8#32) = up4 (cs8 16#32 st).2 := rfl

theorem pay61_eq (st : KV F) : k0_pay61 lane16 k0_pay1 k0_pay2 (st.1) (st.2) (xr8 st.1) (up8 st.2) (dn8 st.2) (8#32) = dn4 (cs8 16#32 st).2 := rfl

theorem pay66_eq (st : KV F) : k0_pay66 lane16 k0_pay1 k0_pay2 (st.1) (st.2) (xr4 st.1) (up4 st.2) (dn4 st.2) (k0_pay62 lane16) k0_pay63 = (cs4 16#32 st).1 := rfl

theorem pay67_eq (st : KV F) : k0_pay67 lane16 k0_pay1 k0_pay2 (st.1) (st.2) (xr4 st.1) (up4 st.2) (dn4 st.2) (k0_pay62 lane16) k0_pay63 = (cs4 16#32 st).2 := rfl

theorem pay68_eq (st : KV F) : k0_pay68 lane16 k0_pay1 k0_pay2 (st.1) (st.2) (xr4 st.1) (up4 st.2) (dn4 st.2) (k0_pay62 lane16) k0_pay63 = xr2 (cs4 16#32 st).1 := rfl

theorem pay69_eq (st : KV F) : k0_pay69 lane16 k0_pay1 k0_pay2 (st.1) (st.2) (xr4 st.1) (up4 st.2) (dn4 st.2) (k0_pay62 lane16) k0_pay63 = xr2 (cs4 16#32 st).2 := rfl

theorem pay70_eq (st : KV F) : k0_pay70 lane16 k0_pay1 k0_pay2 (st.1) (st.2) (xr4 st.1) (up4 st.2) (dn4 st.2) (k0_pay62 lane16) k0_pay63 = b2i (cmpf .olt (cs4 16#32 st).1 (xr2 (cs4 16#32 st).1)) := rfl

theorem pay72_eq (st : KV F) : k0_pay72 lane16 k0_pay1 k0_pay2 (st.1) (st.2) (xr2 st.1) (xr2 st.2) (b2i (cmpf .olt st.1 (xr2 st.1))) = (cs2 16#32 st).1 := rfl

theorem pay73_eq (st : KV F) : k0_pay73 lane16 k0_pay1 k0_pay2 (st.1) (st.2) (xr2 st.1) (xr2 st.2) (b2i (cmpf .olt st.1 (xr2 st.1))) = (cs2 16#32 st).2 := rfl

theorem pay74_eq (st : KV F) : k0_pay74 lane16 k0_pay1 k0_pay2 (st.1) (st.2) (xr2 st.1) (xr2 st.2) (b2i (cmpf .olt st.1 (xr2 st.1))) = xr1 (cs2 16#32 st).1 := rfl

theorem pay75_eq (st : KV F) : k0_pay75 lane16 k0_pay1 k0_pay2 (st.1) (st.2) (xr2 st.1) (xr2 st.2) (b2i (cmpf .olt st.1 (xr2 st.1))) = xr1 (cs2 16#32 st).2 := rfl

theorem pay76_eq (st : KV F) : k0_pay76 lane16 k0_pay1 k0_pay2 (st.1) (st.2) (xr2 st.1) (xr2 st.2) (b2i (cmpf .olt st.1 (xr2 st.1))) = b2i (cmpf .olt (cs2 16#32 st).1 (xr1 (cs2 16#32 st).1)) := rfl

theorem pay77_eq (st : KV F) : k0_pay77 lane16 k0_pay1 k0_pay2 (st.1) (st.2) (xr2 st.1) (xr2 st.2) (b2i (cmpf .olt st.1 (xr2 st.1))) = b2i (cmpf .oeq (cs2 16#32 st).1 (xr1 (cs2 16#32 st).1)) := rfl

theorem pay78_eq (st : KV F) : k0_pay78 lane16 k0_pay1 k0_pay2 (st.1) (st.2) (xr2 st.1) (xr2 st.2) (b2i (cmpf .olt st.1 (xr2 st.1))) = b2i (cmpi .slt (cs2 16#32 st).2 (xr1 (cs2 16#32 st).2)) := rfl

theorem pay80_eq (st : KV F) : k0_pay80 lane16 k0_pay1 k0_pay2 (st.2) (xr1 st.2) (b2i (cmpf .olt st.1 (xr1 st.1))) (b2i (cmpf .oeq st.1 (xr1 st.1))) (b2i (cmpi .slt st.2 (xr1 st.2))) = (cs1 16#32 st).2 := rfl

theorem pay82_eq (st : KV F) : k0_pay82 lane16 k0_pay1 k0_pay2 (st.1) (xr1 st.1) (b2i (cmpf .olt st.1 (xr1 st.1))) (b2i (cmpf .oeq st.1 (xr1 st.1))) (b2i (cmpi .slt st.2 (xr1 st.2))) = up2 (xr4 (xr8 (cs1 16#32 st).1)) := rfl

theorem pay83_eq (st : KV F) : k0_pay83 lane16 k0_pay1 k0_pay2 (st.1) (xr1 st.1) (b2i (cmpf .olt st.1 (xr1 st.1))) (b2i (cmpf .oeq st.1 (xr1 st.1))) (b2i (cmpi .slt st.2 (xr1 st.2))) = dn2 (xr4 (xr8 (cs1 16#32 st).1)) := rfl

theorem pay85_eq (st : KV F) : k0_pay85 lane16 (up2 (xr4 (xr8 st.1))) (dn2 (xr4 (xr8 st.1))) (k0_pay84 lane16) (0#32) = rev16 st.1 := rfl

theorem pay87_eq (st : KV F) : k0_pay87 lane16 (st.2) = up1 (xr2 (xr4 (xr8 st.2))) := rfl

theorem pay88_eq (st : KV F) : k0_pay88 lane16 (st.2) = extractStridedSlice S1 ![15] (xr2 (xr4 (xr8 st.2))) slices_S16_o15_S1 := rfl

theorem pay89_eq (st : KV F) : k0_pay89 lane16 (st.2) = extractStridedSlice S15 ![0] (xr2 (xr4 (xr8 st.2))) slices_S16_o0_S15 := rfl

theorem pay92_eq (bd ck : FVec F S16 .f32) : k0_pay92 ck bd = tk1 bd ck := by
  conv_rhs => rw [← shapeCast_S16 bd]
  rfl

theorem pay93_eq (bd ck : FVec F S16 .f32) (bi : IVec S16 32) (st : KV F) : k0_pay93 lane16 ck (up1 (xr2 (xr4 (xr8 st.2)))) (extractStridedSlice S1 ![15] (xr2 (xr4 (xr8 st.2))) slices_S16_o15_S1) (extractStridedSlice S15 ![0] (xr2 (xr4 (xr8 st.2))) slices_S16_o0_S15) bd bi = tk2 bd ck bi (rev16 st.2) := by
  conv_rhs => rw [← shapeCast_S16 bd, ← shapeCast_S16 bi]
  rfl

theorem pay94_eq (bd ck : FVec F S16 .f32) : k0_pay94 lane16 ck bd = xr8 (tk1 bd ck) := by
  conv_rhs => rw [← shapeCast_S16 bd]
  rfl

theorem pay95_eq (bd ck : FVec F S16 .f32) (bi : IVec S16 32) (st : KV F) : k0_pay95 lane16 ck (up1 (xr2 (xr4 (xr8 st.2)))) (extractStridedSlice S1 ![15] (xr2 (xr4 (xr8 st.2))) slices_S16_o15_S1) (extractStridedSlice S15 ![0] (xr2 (xr4 (xr8 st.2))) slices_S16_o0_S15) bd bi = xr8 (tk2 bd ck bi (rev16 st.2)) := by
  conv_rhs => rw [← shapeCast_S16 bd, ← shapeCast_S16 bi]
  rfl

theorem pay96_eq (bd ck : FVec F S16 .f32) (bi : IVec S16 32) (st : KV F) : k0_pay96 lane16 k0_pay1 k0_pay2 ck (up1 (xr2 (xr4 (xr8 st.2)))) (extractStridedSlice S1 ![15] (xr2 (xr4 (xr8 st.2))) slices_S16_o15_S1) (extractStridedSlice S15 ![0] (xr2 (xr4 (xr8 st.2))) slices_S16_o0_S15) bd bi = xori (b2i (bit0 8#32)) (pairLt (tk1 bd ck) (xr8 (tk1 bd ck)) (tk2 bd ck bi (rev16 st.2)) (xr8 (tk2 bd ck bi (rev16 st.2)))) := by
  conv_rhs => rw [← shapeCast_S16 bd, ← shapeCast_S16 bi]
  rfl

theorem pay103_eq (a : FVec F S16 .f32) (b : IVec S16 32) : k0_pay103 lane16 k0_pay1 k0_pay2 a b (xr8 a) (xr8 b) (xori (b2i (bit0 8#32)) (pairLt a (xr8 a) b (xr8 b))) (0#32) = (ms4 (ms8 (a, b))).1 := rfl

theorem pay104_eq (a : FVec F S16 .f32) (b : IVec S16 32) : k0_pay104 lane16 k0_pay1 k0_pay2 a b (xr8 a) (xr8 b) (xori (b2i (bit0 8#32)) (pairLt a (xr8 a) b (xr8 b))) (0#32) = (ms4 (ms8 (a, b))).2 := rfl

theorem pay105_eq (a : FVec F S16 .f32) (b : IVec S16 32) : k0_pay105 lane16 k0_pay1 k0_pay2 a b (xr8 a) (xr8 b) (xori (b2i (bit0 8#32)) (pairLt a (xr8 a) b (xr8 b))) (0#32) = up2 (ms4 (ms8 (a, b))).1 := rfl

theorem pay106_eq (a : FVec F S16 .f32) (b : IVec S16 32) : k0_pay106 lane16 k0_pay1 k0_pay2 a b (xr8 a) (xr8 b) (xori (b2i (bit0 8#32)) (pairLt a (xr8 a) b (xr8 b))) (0#32) = dn2 (ms4 (ms8 (a, b))).1 := rfl

theorem pay111_eq (st : KV F) : k0_pay111 lane16 k0_pay1 k0_pay2 (st.1) (st.2) (up2 st.1) (dn2 st.1) (k0_pay107 lane16) = (ms2 st).1 := rfl

theorem pay112_eq (st : KV F) : k0_pay112 lane16 k0_pay1 k0_pay2 (st.1) (st.2) (up2 st.1) (dn2 st.1) (k0_pay107 lane16) = (ms2 st).2 := rfl

theorem pay113_eq (st : KV F) : k0_pay113 lane16 k0_pay1 k0_pay2 (st.1) (st.2) (up2 st.1) (dn2 st.1) (k0_pay107 lane16) = xr1 (ms2 st).1 := rfl

theorem pay114_eq (st : KV F) : k0_pay114 lane16 k0_pay1 k0_pay2 (st.1) (st.2) (up2 st.1) (dn2 st.1) (k0_pay107 lane16) = up1 (ms2 st).2 := rfl

theorem pay115_eq (st : KV F) : k0_pay115 lane16 k0_pay1 k0_pay2 (st.1) (st.2) (up2 st.1) (dn2 st.1) (k0_pay107 lane16) = dn1 (ms2 st).2 := rfl

theorem pay9_eq (st : KV F) : k0_pay9 (st.1) (st.2) (xr1 st.1) (up1 st.2) (dn1 st.2) (k0_pay116 lane16) = (ms1 st).1 := shapeCast_S16 _

theorem pay10_eq (st : KV F) : k0_pay10 (st.1) (st.2) (xr1 st.1) (up1 st.2) (dn1 st.2) (k0_pay116 lane16) = (ms1 st).2 := shapeCast_S16 _

theorem pay117_eq (x y z q X Y Z Q : FVec F S16 .f32) : k0_pay117 x y z q X Y Z Q = dist16 x y z q X Y Z Q := by
  unfold k0_pay117 dist16
  simp only [shapeCast_S16]

/-- The least over the first two exchanges. -/
def min84 (d : FVec F S16 .f32) : FVec F S16 .f32 :=
  let a := minimumf d (xr8 d)
  minimumf a (xr4 a)

theorem pay118_eq (x y z q X Y Z Q : FVec F S16 .f32) : k0_pay118 lane16 x y z q X Y Z Q = min84 (dist16 x y z q X Y Z Q) := by
  rw [← pay117_eq]
  rfl

theorem pay119_eq (x y z q X Y Z Q : FVec F S16 .f32) : k0_pay119 lane16 x y z q X Y Z Q = up2 (min84 (dist16 x y z q X Y Z Q)) := by
  rw [← pay117_eq]
  rfl

theorem pay120_eq (x y z q X Y Z Q : FVec F S16 .f32) : k0_pay120 lane16 x y z q X Y Z Q = dn2 (min84 (dist16 x y z q X Y Z Q)) := by
  rw [← pay117_eq]
  rfl

theorem pay5_eq (d : FVec F S16 .f32) : k0_pay5 (min84 d) (up2 (min84 d)) (dn2 (min84 d)) = min16 d (ln 0) := by
  have h : k0_pay5 (min84 d) (up2 (min84 d)) (dn2 (min84 d))
      = extractAt ![0] (extractStridedSlice S1 ![0] (min16 d) slices_S16_o0_S1) inpos_S1_p0 := rfl
  rw [h]
  exact congrArg (min16 d) (funext fun a => match a with | ⟨0, _⟩ => rfl)

theorem pay6_eq (b : FVec F S16 .f32) : k0_pay6 b = b (ln 15) := by
  unfold k0_pay6
  rw [shapeCast_S16]
  exact congrArg b (funext fun a => match a with | ⟨0, _⟩ => rfl)

theorem pay11_eq (v : IVec S16 32) : k0_pay11 (F := F) v = addi v (broadcast S16 14336#32) := by
  unfold k0_pay11
  simp only [shapeCast_S16]

/-! The kernel's result as a function of the four arrays. -/

/-- Element `n` of an array of 2048. -/
def pt (n : Fin 2048) : S2048.Idx := fun a => match a with | ⟨0, _⟩ => n

/-- The sixteen elements of chunk `k`. -/
def ld16 (f : S2048.Idx → α) (k : Fin 128) : S16.Idx → α :=
  fun j => f (pt ⟨16 * k.val + (j 0).val, by have h := (j 0).isLt; have := k.isLt; change (j 0).val < 16 at h; omega⟩)

/-- Element `r` in every lane. -/
def one16 (f : S2048.Idx → α) (r : Fin 2048) : S16.Idx → α := fun _ => f (pt r)

/-- The distances of row `r` to the sixteen points of chunk `k`. -/
def rowDist (X Y Z Q : S2048.Idx → F .f32) (r : Fin 2048) (k : Fin 128) : FVec F S16 .f32 :=
  dist16 (one16 X r) (one16 Y r) (one16 Z r) (one16 Q r) (ld16 X k) (ld16 Y k) (ld16 Z k) (ld16 Q k)

/-- The sixteen best of row `r` after `n` chunks. -/
def best (X Y Z Q : S2048.Idx → F .f32) (r : Fin 2048) : ℕ → KV F
  | 0 => (k0_pay3, k0_pay4)
  | n + 1 => if h : n < 128 then chunk (BitVec.ofNat 32 n) (rowDist X Y Z Q r ⟨n, h⟩) (best X Y Z Q r n)
    else best X Y Z Q r n

/-- The sixteen indices the kernel stores for row `r`. -/
def rowOut (X Y Z Q : S2048.Idx → F .f32) (r : Fin 2048) : IVec S16 32 :=
  addi (best X Y Z Q r 128).2 (broadcast S16 14336#32)

/-- The kernel's result: sixteen indices for each of the last 1536 rows. -/
def scOut (X Y Z Q : S2048.Idx → F .f32) : S24576.Idx → BitVec 32 := fun e =>
  rowOut X Y Z Q ⟨512 + (e 0).val / 16, by have h := (e 0).isLt; change (e 0).val < 24576 at h; omega⟩
    (ln ⟨(e 0).val % 16, Nat.mod_lt _ (by decide)⟩)

end Cert.Proof
-- ==== Proof.Setup.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Net
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

/-! The program as the launch theorem sees it: its SparseCore configuration, the resource algebra (the
    handshakes' rounds, the pipeline's rounds, the transfers' counters), and the arrays the kernel
    reads and writes. -/

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the handshakes, of the pipeline, and the transfers' counters. -/
abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ
local notation "𝕄" => MT nD τ sig (HIx 1) (Elt F) ℕ UU ℕ

abbrev EH : Emb UH (MT nD τ sig (HIx 1) (Elt F) ℕ UU ℕ) := embL

/-- The pipeline's rounds, inside the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The arrays of the SparseCore call, as locations of device `d`: the three coordinates, the squares, the result. -/
abbrev xLoc (d : Dev nD) : Loc nD τ sig := (SparseCore.T d).loc main_v7
abbrev yLoc (d : Dev nD) : Loc nD τ sig := (SparseCore.T d).loc main_v9
abbrev zLoc (d : Dev nD) : Loc nD τ sig := (SparseCore.T d).loc main_v11
abbrev qLoc (d : Dev nD) : Loc nD τ sig := (SparseCore.T d).loc main_v5
abbrev oLoc (d : Dev nD) : Loc nD τ sig := (SparseCore.T d).loc main_v12

/-- The contents of the four arrays the SparseCore call reads, on each device. -/
structure Ins (F : FTy → Type) where
  X : (d : Dev nD) → Buf (Elt F) (xLoc d)
  Y : (d : Dev nD) → Buf (Elt F) (yLoc d)
  Z : (d : Dev nD) → Buf (Elt F) (zLoc d)
  Q : (d : Dev nD) → Buf (Elt F) (qLoc d)

end Cert.Proof

end
-- ==== Proof.Tile.lean ====
module

public import proofs.«01_k».proof.Proof.Setup
public import Idealize.ShloMosaic.Lib.VecWindow

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them

variable [FloatOps F]

theorem idx16_all (i : S16.Idx) (o : Fin 1 → ℕ) (h : ∀ a, o a + S16.size a ≤ S16.size a) : (Rect.unit (s := S16) o ![16] h).toLoadRect.idx i = i := by
  funext a
  refine Fin.ext ?_
  rw [LoadRect.idx_apply]
  have := h a
  simp; omega

theorem rd_B (h) (bd : FVec F S16 .f32) :
    View.readAt (Elt F) (View.whole cc0_scratch5) (Rect.unit (s := S16) ![0] ![16] h).toLoadRect bd = bd := by
  funext i
  rw [View.readAt_apply, View.read_whole, idx16_all]

theorem rd_I (h) (bi : IVec S16 32) :
    View.readAt (Elt F) (View.whole cc0_scratch6) (Rect.unit (s := S16) ![0] ![16] h).toLoadRect bi = bi := by
  funext i
  rw [View.readAt_apply, View.read_whole, idx16_all]

theorem read_all {κ : Kind} (b : Ref sig κ) (f : b.ty.Contents (Elt F)) : (View.whole b).read (Elt F) f = f := View.read_whole b f

theorem wr_B (h) (bd w : FVec F S16 .f32) :
    (View.whole cc0_scratch5).writes (Elt F) bd [⟨Rect.unit (s := S16) ![0] ![16] h, w⟩] = w := by
  exact (read_all _ _).symm.trans (View.read_writes_full (Val := Elt F) (View.whole cc0_scratch5) bd h w [])

theorem wr_I (h) (bi w : IVec S16 32) :
    (View.whole cc0_scratch6).writes (Elt F) bi [⟨Rect.unit (s := S16) ![0] ![16] h, w⟩] = w := by
  exact (read_all _ _).symm.trans (View.read_writes_full (Val := Elt F) (View.whole cc0_scratch6) bi h w [])

theorem k0_t2_lt (k : Fin k0_t2_loop.trips) : k.val < 128 := lt_of_lt_of_le k.isLt k0_t2_abs.2.1

theorem idx_chunk (k : Fin k0_t2_loop.trips) (i : S16.Idx) (h) :
    (Rect.unit (s := S2048) (k0_off1 k) ![16] h).toLoadRect.idx i = pt ⟨16 * k.val + (i 0).val, by have := k0_t2_lt k; have : (i 0).val < 16 := (i 0).isLt; omega⟩ := by
  funext a
  refine Fin.ext ?_
  rw [LoadRect.idx_apply]
  match a with
  | 0 => simp [k0_off1_eq, pt]

theorem rd_X (k : Fin k0_t2_loop.trips) (h) (f : S2048.Idx → F .f32) :
    View.readAt (Elt F) (View.whole cc0_scratch0) (Rect.unit (s := S2048) (k0_off1 k) ![16] h).toLoadRect f = ld16 f ⟨k.val, k0_t2_lt k⟩ := by
  funext i
  rw [View.readAt_apply, View.read_whole, idx_chunk]
  rfl

theorem rd_Y (k : Fin k0_t2_loop.trips) (h) (f : S2048.Idx → F .f32) :
    View.readAt (Elt F) (View.whole cc0_scratch1) (Rect.unit (s := S2048) (k0_off1 k) ![16] h).toLoadRect f = ld16 f ⟨k.val, k0_t2_lt k⟩ := by
  funext i
  rw [View.readAt_apply, View.read_whole, idx_chunk]
  rfl

theorem rd_Z (k : Fin k0_t2_loop.trips) (h) (f : S2048.Idx → F .f32) :
    View.readAt (Elt F) (View.whole cc0_scratch2) (Rect.unit (s := S2048) (k0_off1 k) ![16] h).toLoadRect f = ld16 f ⟨k.val, k0_t2_lt k⟩ := by
  funext i
  rw [View.readAt_apply, View.read_whole, idx_chunk]
  rfl

theorem rd_Q (k : Fin k0_t2_loop.trips) (h) (f : S2048.Idx → F .f32) :
    View.readAt (Elt F) (View.whole cc0_scratch3) (Rect.unit (s := S2048) (k0_off1 k) ![16] h).toLoadRect f = ld16 f ⟨k.val, k0_t2_lt k⟩ := by
  funext i
  rw [View.readAt_apply, View.read_whole, idx_chunk]
  rfl

theorem dite_flag {α : Type} (c : BitVec 1) (a b : α) :
    (if _h : Scalar.cmpi CmpIPredicate.ne (Scalar.extui c) 0#32 = 1#1 then a else b) = if c = 1#1 then a else b := by
  have : c = 0#1 ∨ c = 1#1 := by revert c; decide
  rcases this with rfl | rfl
  · rw [dif_neg (by decide), if_neg (by decide)]
  · rw [dif_pos (by decide), if_pos rfl]

theorem chunk_fst (c : BitVec 32) (d : FVec F S16 .f32) (b : KV F) :
    (chunk c d b).1 = if better d b.1 = 1#1 then (merge16 b (d, k0_pay12 lane16 c)).1 else b.1 := by
  unfold chunk; split <;> rfl

theorem chunk_snd (c : BitVec 32) (d : FVec F S16 .f32) (b : KV F) :
    (chunk c d b).2 = if better d b.1 = 1#1 then (merge16 b (d, k0_pay12 lane16 c)).2 else b.2 := by
  unfold chunk; split <;> rfl

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The six scratch buffers that the chunk loop touches: the four tables, the best distances and the best indices. -/
def six (X Y Z Q : S2048.Idx → F .f32) (bd : FVec F S16 .f32) (bi : IVec S16 32) : sProp 𝕄 :=
  iprop(((Memref.whole cc0_scratch0).view.loc (thrV d L) ↦{fullShare} X) ∗ ((Memref.whole cc0_scratch1).view.loc (thrV d L) ↦{fullShare} Y)
    ∗ ((Memref.whole cc0_scratch2).view.loc (thrV d L) ↦{fullShare} Z) ∗ ((Memref.whole cc0_scratch3).view.loc (thrV d L) ↦{fullShare} Q)
    ∗ ((Memref.whole cc0_scratch5).view.loc (thrV d L) ↦{fullShare} bd) ∗ ((Memref.whole cc0_scratch6).view.loc (thrV d L) ↦{fullShare} bi))

set_option maxHeartbeats 4000000 in
theorem t2_region (X Y Z Q : S2048.Idx → F .f32) (x y z q : FVec F S16 .f32) (bd : FVec F S16 .f32) (bi : IVec S16 32) (k : Fin k0_t2_loop.trips) :
    six d L X Y Z Q bd bi
      ⊢ wp frame (wpE (defs₀ (F := F)) 𝒱₀ (thrV d L) none) Set.univ
          (k0_t2_body L (Memref.whole main_v7_scv) (Memref.isWhole_whole _) (Memref.whole main_v9_scv) (Memref.isWhole_whole _) (Memref.whole main_v11_scv) (Memref.isWhole_whole _) (Memref.whole main_v5_scv) (Memref.isWhole_whole _) (Memref.whole main_v12_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scoped0 cc0_scoped1 cc0_scoped2 cc0_scoped3 cc0_scoped4 lane16 x y z q k ())
          fun _ => six d L X Y Z Q (chunk (Scf.iv 0#32 1#32 k) (dist16 x y z q (ld16 X ⟨k, k0_t2_lt k⟩) (ld16 Y ⟨k, k0_t2_lt k⟩) (ld16 Z ⟨k, k0_t2_lt k⟩) (ld16 Q ⟨k, k0_t2_lt k⟩)) (bd, bi)).1
            (chunk (Scf.iv 0#32 1#32 k) (dist16 x y z q (ld16 X ⟨k, k0_t2_lt k⟩) (ld16 Y ⟨k, k0_t2_lt k⟩) (ld16 Z ⟨k, k0_t2_lt k⟩) (ld16 Q ⟨k, k0_t2_lt k⟩)) (bd, bi)).2 := by
  unfold k0_t2_body
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, pure_bind, bind_assoc,
    pay16_eq, pay17_eq, pay21_eq, pay22_eq, pay23_eq, pay24_eq, pay28_eq, pay29_eq, pay30_eq, pay31_eq, pay36_eq, pay37_eq, pay38_eq, pay39_eq, pay44_eq, pay45_eq, pay46_eq, pay47_eq, pay50_eq, pay51_eq, pay52_eq, pay53_eq, pay54_eq, pay57_eq, pay58_eq, pay59_eq, pay60_eq, pay61_eq, pay66_eq, pay67_eq, pay68_eq, pay69_eq, pay70_eq, pay72_eq, pay73_eq, pay74_eq, pay75_eq, pay76_eq, pay77_eq, pay78_eq, pay80_eq, pay82_eq, pay83_eq, pay85_eq, pay87_eq, pay88_eq, pay89_eq, pay92_eq, pay93_eq, pay94_eq, pay95_eq, pay96_eq, pay103_eq, pay104_eq, pay105_eq, pay106_eq, pay111_eq, pay112_eq, pay113_eq, pay114_eq, pay115_eq, pay9_eq, pay10_eq, pay117_eq, pay118_eq, pay119_eq, pay120_eq, pay5_eq, pay6_eq]
  unfold six
  iintro ⟨HX, HY, HZ, HQ, HB, HI⟩
  sl_exec
  simp only [rd_X, rd_Y, rd_Z, rd_Q, rd_B, rd_I, wr_B, wr_I, dite_flag]
  sl_step
  rw [chunk_fst, chunk_snd]
  unfold better merge16 take16 sort16
  isplitl [HX]; · iexact HX
  isplitl [HY]; · iexact HY
  isplitl [HZ]; · iexact HZ
  isplitl [HQ]; · iexact HQ
  isplitl [HB]; · iexact HB
  iexact HI

theorem t1_lt (k : Fin k0_t1_loop.trips) : k.val < 48 := lt_of_lt_of_le k.isLt k0_t1_abs.2.1

theorem L0_lt : (L 0).val < 2 := (L 0).isLt
theorem L1_lt : (L 1).val < 16 := (L 1).isLt

/-- The row of the last batch that tile `L` treats on its `k`-th trip. -/
def tileRow (k : ℕ) (hk : k < 48) : Fin 2048 :=
  ⟨512 + (2 * (L 1).val + (L 0).val) * 48 + k, by have := L0_lt L; have := L1_lt L; omega⟩

/-- The row as the kernel computes it, in 32-bit words. -/
abbrev rowWord (k : ℕ) : BitVec 32 :=
  Scalar.addi (Scalar.addi 512#32 (Scalar.muli (Scalar.addi (Scalar.muli (BitVec.ofNat 32 (L 1).val) 2#32) (BitVec.ofNat 32 (L 0).val)) 48#32)) (Scf.iv 0#32 1#32 k)

theorem iv_ofNat (k : ℕ) : Scf.iv 0#32 1#32 k = BitVec.ofNat 32 k := by
  simp [Scf.iv]

theorem rowWord_toNat (k : ℕ) (hk : k < 48) : (rowWord L k).toNat = (tileRow L k hk).val := by
  have := L0_lt L; have := L1_lt L
  simp [rowWord, iv_ofNat, Scalar.addi, Scalar.muli, IntOp.addi, IntOp.muli, tileRow, BitVec.toNat_add, BitVec.toNat_mul]
  omega

theorem chk_row (k : ℕ) (hk : k < 48) : k0_chk1 (broadcast S16 (rowWord L k)) := by
  have h : ∀ a x, ((![broadcast S16 (rowWord L k)] : Fin 1 → IVec S16 32) a x).toNat < S2048.size a := by
    intro a x
    match a with
    | 0 => show (rowWord L k).toNat < 2048; rw [rowWord_toNat L k hk]; exact (tileRow L k hk).isLt
  exact ⟨h, h, h, h⟩

theorem loadIdx_row (f : S2048.Idx → F .f32) (k : ℕ) (hk : k < 48) (h) :
    loadIdx (F := F) (s := S2048) (e := .f32) f (![broadcast S16 (rowWord L k)] : Fin 1 → IVec S16 32) h = one16 f (tileRow L k hk) := by
  funext x
  refine congrArg f ?_
  funext a
  match a with
  | 0 => exact Fin.ext (rowWord_toNat L k hk)

/-- Element `e` of tile `L`'s block of the output. -/
def outAt (e : S768.Idx) : S24576.Idx := fun a => match a with
  | ⟨0, _⟩ => ⟨1536 * (L 1).val + 768 * (L 0).val + (e 0).val, by
      have := L0_lt L; have := L1_lt L; have : (e 0).val < 768 := (e 0).isLt
      show _ < 24576; omega⟩

/-- The tile's buffer `fo` holds the finished indices of the first `k` rows of its block. -/
def Done (X Y Z Q : S2048.Idx → F .f32) (k : ℕ) (fo : IVec S768 32) : Prop :=
  ∀ e : S768.Idx, (e 0).val < 16 * k → fo e = scOut X Y Z Q (outAt L e)

theorem best_succ (X Y Z Q : S2048.Idx → F .f32) (r : Fin 2048) (k : Fin k0_t2_loop.trips) :
    best X Y Z Q r (k.val + 1) = chunk (Scf.iv 0#32 1#32 k) (rowDist X Y Z Q r ⟨k, k0_t2_lt k⟩) (best X Y Z Q r k.val) := by
  rw [iv_ofNat]
  exact dif_pos (k0_t2_lt k)

theorem t2_trips : k0_t2_loop.trips = 128 := by decide +kernel
theorem t1_trips : k0_t1_loop.trips = 48 := by decide +kernel

theorem scOut_at (X Y Z Q : S2048.Idx → F .f32) (e : S24576.Idx) (r : Fin 2048) (l : Fin 16) (hr : r.val = 512 + (e 0).val / 16) (hl : l.val = (e 0).val % 16) :
    rowOut X Y Z Q r (ln l) = scOut X Y Z Q e := by
  unfold scOut
  congr 1
  · congr 1; exact Fin.ext hr
  · congr 1; exact Fin.ext hl

theorem done_zero (X Y Z Q : S2048.Idx → F .f32) (fo : IVec S768 32) : Done L X Y Z Q 0 fo := fun e h => absurd h (by omega)

/-- Writing the indices of the `k`-th row into its sixteen places keeps the earlier rows and finishes that one. -/
theorem done_succ (X Y Z Q : S2048.Idx → F .f32) (k : Fin k0_t1_loop.trips) (fo : IVec S768 32) (hfo : Done L X Y Z Q k.val fo) (h) :
    Done L X Y Z Q (k.val + 1) ((View.whole cc0_scratch4).writes (Elt F) fo
      [⟨Rect.unit (s := S768) (k0_off2 k) ![16] h, rowOut X Y Z Q (tileRow L k (t1_lt k))⟩]) := by
  intro e he
  have h768 : (e 0).val < 768 := (e 0).isLt
  by_cases hlt : (e 0).val < 16 * k.val
  · rw [← hfo e hlt]
    exact (congrFun (read_all (F := F) cc0_scratch4 _) e).symm.trans ((View.read_writes_cons_unit_of_not_mem (Val := Elt F) (View.whole cc0_scratch4) fo h _ [] e (k0_off2_eq k) 0 (.inl hlt)).trans (congrFun (read_all (F := F) cc0_scratch4 _) e))
  · refine (congrFun (read_all (F := F) cc0_scratch4 _) e).symm.trans ((View.read_writes_cons_unit_of_mem (Val := Elt F) (View.whole cc0_scratch4) fo h _ [] e (ln ⟨(e 0).val - 16 * k.val, by omega⟩) (k0_off2_eq k) ?_).trans ?_)
    · intro a
      match a with
      | 0 => show (e 0).val = 16 * k.val + ((e 0).val - 16 * k.val); omega
    · have := t1_lt k
      have hv : (outAt L e 0).val = 1536 * (L 1).val + 768 * (L 0).val + (e 0).val := rfl
      refine scOut_at X Y Z Q _ _ _ ?_ ?_
      · show 512 + (2 * (L 1).val + (L 0).val) * 48 + k.val = _; rw [hv]; omega
      · show (e 0).val - 16 * k.val = _; rw [hv]; omega

/-- The buffer of the finished indices. -/
def outB (fo : IVec S768 32) : sProp 𝕄 := (Memref.whole cc0_scratch4).view.loc (thrV d L) ↦{fullShare} fo

set_option maxHeartbeats 4000000 in
theorem t1_region (X Y Z Q : S2048.Idx → F .f32) (bd : FVec F S16 .f32) (bi : IVec S16 32) (fo : IVec S768 32) (k : Fin k0_t1_loop.trips) (hfo : Done L X Y Z Q k.val fo) :
    iprop(six d L X Y Z Q bd bi ∗ outB d L fo)
      ⊢ wp frame (wpE (defs₀ (F := F)) 𝒱₀ (thrV d L) none) Set.univ
          (k0_t1_body L (Memref.whole main_v7_scv) (Memref.isWhole_whole _) (Memref.whole main_v9_scv) (Memref.isWhole_whole _) (Memref.whole main_v11_scv) (Memref.isWhole_whole _) (Memref.whole main_v5_scv) (Memref.isWhole_whole _) (Memref.whole main_v12_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scoped0 cc0_scoped1 cc0_scoped2 cc0_scoped3 cc0_scoped4 (Scalar.addi 512#32 (Scalar.muli (Scalar.addi (Scalar.muli (BitVec.ofNat 32 (L 1).val) 2#32) (BitVec.ofNat 32 (L 0).val)) 48#32)) k ())
          fun _ => iprop(∃ bd bi fo, ⌜Done L X Y Z Q (k.val + 1) fo⌝ ∗ six d L X Y Z Q bd bi ∗ outB d L fo) := by
  unfold k0_t1_body
  simp only [Prog.lift, Prog.bind_op, Prog.bind_ret, Prog.pure_eq_ret]
  rw [wp_assume_of _ _ _ _ (chk_row L k (t1_lt k))]
  unfold six
  iintro ⟨⟨HX, HY, HZ, HQ, HB, HI⟩, HO⟩
  iapply (SparseCore.wp_vectorLoadIdx 𝒱₀ (thrV d L) none Set.univ (base := Memref.whole cc0_scratch0) (S := Finset.univ) (q := fullShare) (Finset.subset_univ _)) $$ HX; iintro HX
  iapply (SparseCore.wp_vectorLoadIdx 𝒱₀ (thrV d L) none Set.univ (base := Memref.whole cc0_scratch1) (S := Finset.univ) (q := fullShare) (Finset.subset_univ _)) $$ HY; iintro HY
  iapply (SparseCore.wp_vectorLoadIdx 𝒱₀ (thrV d L) none Set.univ (base := Memref.whole cc0_scratch2) (S := Finset.univ) (q := fullShare) (Finset.subset_univ _)) $$ HZ; iintro HZ
  iapply (SparseCore.wp_vectorLoadIdx 𝒱₀ (thrV d L) none Set.univ (base := Memref.whole cc0_scratch3) (S := Finset.univ) (q := fullShare) (Finset.subset_univ _)) $$ HQ; iintro HQ
  sl_exec
  unfold t1_region.sl.HB_1 t1_region.sl.HI_1
  simp only [wr_B, wr_I, Memref.read_access_whole, loadIdx_row L _ k (t1_lt k)]
  sl_for (fun (n : ℕ) (_ : Unit) => six d L X Y Z Q (best X Y Z Q (tileRow L k (t1_lt k)) n).1 (best X Y Z Q (tileRow L k (t1_lt k)) n).2) $$ [HX HY HZ HQ HB HI]
  case region =>
    intro j _
    rw [best_succ]
    exact t2_region d L X Y Z Q _ _ _ _ _ _ j
  · unfold six
    isplitl [HX]; · iexact HX
    isplitl [HY]; · iexact HY
    isplitl [HZ]; · iexact HZ
    isplitl [HQ]; · iexact HQ
    isplitl [HB]; · iexact HB
    iexact HI
  iintro %_ HS
  rw [show Scf.trips k0_t2_loop.lb k0_t2_loop.ub k0_t2_loop.st = 128 from t2_trips]
  unfold six outB
  icases HS with ⟨HX, HY, HZ, HQ, HB, HI⟩
  sl_exec
  sl_step
  simp only [rd_I, pay11_eq]
  iexists _, _, _
  isplitr
  · ipureintro
    exact done_succ L X Y Z Q k fo hfo (k0_off2_inb k)
  isplitl [HX HY HZ HQ HB HI]
  · isplitl [HX]; · iexact HX
    isplitl [HY]; · iexact HY
    isplitl [HZ]; · iexact HZ
    isplitl [HQ]; · iexact HQ
    isplitl [HB]; · iexact HB
    iexact HI
  · iexact HO

end Tile

end Cert.Proof

end
-- ==== Proof.Body.lean ====
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A conjunction over a set that contains the images of `f` is the conjunction over them and the rest. -/
theorem bigSep_open {n : ℕ} {ι : Type} [DecidableEq ι] (f : Fin n ↪ ι) (S : Finset ι) (h : ∀ i, f i ∈ S) (Φ : ι → sProp 𝕄) :
    bigSep S Φ = iprop(bigSep Finset.univ (fun i => Φ (f i)) ∗ bigSep (S \ Finset.univ.map f) Φ) := by
  rw [SparseCore.bigSep_sdiff_split' (t := Finset.univ.map f) (fun x hx => by
    obtain ⟨i, -, rfl⟩ := Finset.mem_map.mp hx; exact h i), bigSep_map]

theorem bigSep_succ {n : ℕ} (Φ : Fin (n + 1) → sProp 𝕄) :
    bigSep Finset.univ Φ = iprop(Φ 0 ∗ bigSep Finset.univ (fun i : Fin n => Φ i.succ)) := by
  rw [Fin.univ_succ, Finset.cons_eq_insert, SparseCore.bigSep_insert' (by simp [Fin.succ_ne_zero]), bigSep_map]
  rfl

theorem bigSep_fin0 (Φ : Fin 0 → sProp 𝕄) : bigSep Finset.univ Φ = iprop(emp) := by
  rw [Finset.univ_eq_empty]; exact bigSep_empty

section Tile

variable (d : Dev nD) (L : grid0.Coords)

/-- The kernel's five counters. -/
def semOf : Fin 5 → DmaSem sig := ![cc0_scoped0.sem, cc0_scoped1.sem, cc0_scoped2.sem, cc0_scoped3.sem, cc0_scoped4.sem]
theorem semOf_inj : Function.Injective semOf := by decide
theorem semOf_scoped : ∀ i, (SemLoc.dma (semOf i) : SemLoc sig).isScoped .scVector = true := by decide
def cellOf' : Fin 5 ↪ GSem nD τ sig :=
  ⟨fun i => (thrV d L, SemLoc.dma (semOf i)), fun i j h => semOf_inj (by simpa using (Prod.mk.inj h).2)⟩

/-- The kernel's seven scratch buffers. -/
def bufOf : Fin 7 → Ref sig .scVector := ![cc0_scratch0, cc0_scratch1, cc0_scratch2, cc0_scratch3, cc0_scratch4, cc0_scratch5, cc0_scratch6]
theorem bufOf_inj : Function.Injective bufOf := by decide
def refOf : Fin 7 ↪ DevRef τ sig :=
  ⟨fun i => (Proc.scVector (cV L) (jV L)).devRef (bufOf i), fun i j h => bufOf_inj (Proc.devRef_injective _ h)⟩

/-- The subcore's own counters: the kernel's five and the rest. -/
theorem ownSems0_V :
    (ownSems0 (thrV d L) : sProp 𝕄)
      = iprop((semVal (thrV d L, SemLoc.dma cc0_scoped0.sem) 0 ∗ semVal (thrV d L, SemLoc.dma cc0_scoped1.sem) 0 ∗ semVal (thrV d L, SemLoc.dma cc0_scoped2.sem) 0
          ∗ semVal (thrV d L, SemLoc.dma cc0_scoped3.sem) 0 ∗ semVal (thrV d L, SemLoc.dma cc0_scoped4.sem) 0 ∗ emp)
          ∗ bigSep (ownCells (thrV d L) \ Finset.univ.map (cellOf' d L)) fun g => semVal g 0) := by
  unfold SparseCore.Cfg.ownSems0
  rw [bigSep_open (F := F) (cellOf' d L) _ (fun i => mem_ownCells.mpr ⟨rfl, semOf_scoped i⟩), bigSep_succ, bigSep_succ, bigSep_succ, bigSep_succ, bigSep_succ, bigSep_fin0]
  rfl

/-- The subcore's own buffers: the kernel's seven and the rest. -/
theorem ownBufs_V :
    (ownBufs (thrV d L) : sProp 𝕄)
      = iprop(((∃ f, (thrV d L).loc cc0_scratch0 ↦{fullShare} f) ∗ (∃ f, (thrV d L).loc cc0_scratch1 ↦{fullShare} f) ∗ (∃ f, (thrV d L).loc cc0_scratch2 ↦{fullShare} f)
          ∗ (∃ f, (thrV d L).loc cc0_scratch3 ↦{fullShare} f) ∗ (∃ f, (thrV d L).loc cc0_scratch4 ↦{fullShare} f) ∗ (∃ f, (thrV d L).loc cc0_scratch5 ↦{fullShare} f)
          ∗ (∃ f, (thrV d L).loc cc0_scratch6 ↦{fullShare} f) ∗ emp)
          ∗ bigSep (ownRefs (τ := τ) (.scVector (cV L) (jV L)) \ Finset.univ.map (refOf L)) fun b => iprop(∃ f, ((d, b) : Loc nD τ sig) ↦{fullShare} f)) := by
  unfold SparseCore.Cfg.ownBufs
  have h : ∀ i, refOf L i ∈ ownRefs (τ := τ) (sig := sig) (.scVector (cV L) (jV L)) := fun i =>
    SparseCore.Cfg.mem_ownRefs_of_owner (p := Proc.scVector (cV L) (jV L)) (b := (Proc.scVector (cV L) (jV L)).devRef (bufOf i)) (by revert i; intro i; fin_cases i <;> rfl)
  refine (bigSep_open (F := F) (refOf L) _ h _).trans ?_
  rw [bigSep_succ, bigSep_succ, bigSep_succ, bigSep_succ, bigSep_succ, bigSep_succ, bigSep_succ, bigSep_fin0]
  rfl

/-- The tile's block of the result array. -/
abbrev oSl (L : grid0.Coords) : Memref sig .scVector .hbm S768 .i32 :=
  (Memref.whole main_v12_scv).slice (Rect.unit (s := S24576) (k0_off3 L) S768.size (k0_off3_inb L)) (fun _ => rfl)

/-- What a tile is handed: a read share of each of the four arrays, and its block of the result. -/
def goT (q : PosShare TreeShare) (X Y Z Q : S2048.Idx → F .f32) : sProp 𝕄 :=
  iprop((xLoc d ↦{q} X) ∗ (yLoc d ↦{q} Y) ∗ (zLoc d ↦{q} Z) ∗ (qLoc d ↦{q} Q)
    ∗ ∃ f, (oSl L).view.loc (thrV d L) ↦[(oSl L).view.set]{fullShare} f)

/-- What a tile hands back: its block of the result, finished. -/
def tdT (X Y Z Q : S2048.Idx → F .f32) : sProp 𝕄 :=
  (oSl L).view.loc (thrV d L) ↦[(oSl L).view.set]{fullShare} (scOut X Y Z Q)

theorem landX (g f : S2048.Idx → F .f32) :
    (((Memref.whole cc0_scratch0).view.loc (thrV d L) ↦{fullShare} View.write (Elt F) (Memref.whole cc0_scratch0).view g (ReadAs.same.apply (View.read (Elt F) (Memref.whole main_v7_scv).view f)) Finset.univ) : sProp 𝕄)
      = (Memref.whole cc0_scratch0).view.loc (thrV d L) ↦{fullShare} f :=
  congrArg (fun w => (((Memref.whole cc0_scratch0).view.loc (thrV d L) ↦{fullShare} w) : sProp 𝕄)) (View.write_whole_univ _ _ _)

theorem landY (g f : S2048.Idx → F .f32) :
    (((Memref.whole cc0_scratch1).view.loc (thrV d L) ↦{fullShare} View.write (Elt F) (Memref.whole cc0_scratch1).view g (ReadAs.same.apply (View.read (Elt F) (Memref.whole main_v9_scv).view f)) Finset.univ) : sProp 𝕄)
      = (Memref.whole cc0_scratch1).view.loc (thrV d L) ↦{fullShare} f :=
  congrArg (fun w => (((Memref.whole cc0_scratch1).view.loc (thrV d L) ↦{fullShare} w) : sProp 𝕄)) (View.write_whole_univ _ _ _)

theorem landZ (g f : S2048.Idx → F .f32) :
    (((Memref.whole cc0_scratch2).view.loc (thrV d L) ↦{fullShare} View.write (Elt F) (Memref.whole cc0_scratch2).view g (ReadAs.same.apply (View.read (Elt F) (Memref.whole main_v11_scv).view f)) Finset.univ) : sProp 𝕄)
      = (Memref.whole cc0_scratch2).view.loc (thrV d L) ↦{fullShare} f :=
  congrArg (fun w => (((Memref.whole cc0_scratch2).view.loc (thrV d L) ↦{fullShare} w) : sProp 𝕄)) (View.write_whole_univ _ _ _)

theorem landQ (g f : S2048.Idx → F .f32) :
    (((Memref.whole cc0_scratch3).view.loc (thrV d L) ↦{fullShare} View.write (Elt F) (Memref.whole cc0_scratch3).view g (ReadAs.same.apply (View.read (Elt F) (Memref.whole main_v5_scv).view f)) Finset.univ) : sProp 𝕄)
      = (Memref.whole cc0_scratch3).view.loc (thrV d L) ↦{fullShare} f :=
  congrArg (fun w => (((Memref.whole cc0_scratch3).view.loc (thrV d L) ↦{fullShare} w) : sProp 𝕄)) (View.write_whole_univ _ _ _)

/-- The finished scratch, read at an element of the block, is the answer at the element's place in the result. -/
theorem oSl_emb (x : S768.Idx) : (oSl L).view.emb x = outAt L x := by
  funext a
  refine Fin.ext ?_
  match a with
  | 0 =>
    show (((Rect.unit (s := S24576) (k0_off3 L) S768.size (k0_off3_inb L)).emb x) 0).val = _
    rw [Rect.emb_apply]
    simp [k0_off3_eq]
    rfl

theorem oSl_written (X Y Z Q : S2048.Idx → F .f32) (fo : IVec S768 32) (h : Done L X Y Z Q 48 fo) (f0 : Buf (Elt F) ((oSl L).view.loc (thrV d L)))
    (i) (hi : i ∈ (oSl L).view.set) :
    (oSl L).view.write (Elt F) f0 fo Finset.univ i = scOut X Y Z Q i := by
  obtain ⟨x, -, rfl⟩ := Finset.mem_map.mp hi
  refine (View.write_emb_of_mem _ _ (Finset.mem_univ x)).trans ?_
  refine (h x (by have : (x 0).val < 768 := (x 0).isLt; omega)).trans ?_
  rw [← oSl_emb]

theorem landO (X Y Z Q : S2048.Idx → F .f32) (fo : IVec S768 32) (h : Done L X Y Z Q 48 fo) (f0 : Buf (Elt F) ((oSl L).view.loc (thrV d L))) :
    (((oSl L).view.loc (thrV d L) ↦[(oSl L).view.set]{fullShare} (oSl L).view.writes (Elt F) f0
        [⟨Rect.whole S768, ReadAs.same.apply (View.read (Elt F) (Memref.whole cc0_scratch4).view fo)⟩]) : sProp 𝕄)
      = (oSl L).view.loc (thrV d L) ↦[(oSl L).view.set]{fullShare} (scOut X Y Z Q) := by
  refine pointsTo_congr fun i hi => ?_
  refine Eq.trans ?_ (oSl_written d L X Y Z Q fo h f0 i hi)
  exact (congrFun (View.write_univ_eq_writes_whole (Val := Elt F) (oSl L).view f0 [] fo) i).symm

set_option maxHeartbeats 800000 in
theorem tile_body (hF : (K (F := F)).Facts) (qs : PosShare TreeShare) (X Y Z Q : S2048.Idx → F .f32) (O : CellTallies nD τ sig (HIx 1)) (W : Waits sig (HIx 1)) (hO : ∀ g, O g none = 0) :
    iprop(levAts (K (F := F)).L (K (F := F)).lev ∗ emp ∗ goT d L qs X Y Z Q
        ∗ scopedBufs (thrV d L) ∗ scopedSems0 (thrV d L) ∗ owes (thrV d L) O W)
      ⊢ wp frame (wpE (defs₀ (F := F)) 𝒱₀ (thrV d L) none) Set.univ
          (cc0_sc_kernel L (Memref.whole main_v7_scv) (Memref.isWhole_whole _) (Memref.whole main_v9_scv) (Memref.isWhole_whole _) (Memref.whole main_v11_scv) (Memref.isWhole_whole _) (Memref.whole main_v5_scv) (Memref.isWhole_whole _) (Memref.whole main_v12_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scoped0 cc0_scoped1 cc0_scoped2 cc0_scoped3 cc0_scoped4)
          fun _ => iprop(tdT d L X Y Z Q ∗ scopedBufs (thrV d L) ∗ scopedSems0 (thrV d L) ∗ ∃ W', ⌜∀ p ∈ W', p ∈ W ∨ p.2 = none⌝ ∗ owes (thrV d L) O W') := by
  rw [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hx, Hy, Hz, Hq, %f0, Ho⟩, ⟨⟨⟨%g0, HX⟩, ⟨%g1, HY⟩, ⟨%g2, HZ⟩, ⟨%g3, HQ⟩, ⟨%g4, HO⟩, ⟨%g5, HB⟩, ⟨%g6, HI⟩, -⟩, Hbufs⟩, ⟨⟨Hs0, Hs1, Hs2, Hs3, Hs4, -⟩, Hsems⟩, HW⟩
  ihave Hmw := ((K (F := F)).mayWaits_none (thr := thrV d L) hO) $$ Hlv
  ihave Hx := (Entails.of_eq (show ((xLoc d ↦{qs} X) : sProp 𝕄) = (Memref.whole main_v7_scv).view.loc (thrV d L) ↦{qs} X from rfl)) $$ Hx
  ihave Hy := (Entails.of_eq (show ((yLoc d ↦{qs} Y) : sProp 𝕄) = (Memref.whole main_v9_scv).view.loc (thrV d L) ↦{qs} Y from rfl)) $$ Hy
  ihave Hz := (Entails.of_eq (show ((zLoc d ↦{qs} Z) : sProp 𝕄) = (Memref.whole main_v11_scv).view.loc (thrV d L) ↦{qs} Z from rfl)) $$ Hz
  ihave Hq := (Entails.of_eq (show ((qLoc d ↦{qs} Q) : sProp 𝕄) = (Memref.whole main_v5_scv).view.loc (thrV d L) ↦{qs} Q from rfl)) $$ Hq
  ihave HX := (Entails.of_eq (show (((thrV d L).loc cc0_scratch0 ↦{fullShare} g0) : sProp 𝕄) = (Memref.whole cc0_scratch0).view.loc (thrV d L) ↦{fullShare} g0 from rfl)) $$ HX
  ihave HY := (Entails.of_eq (show (((thrV d L).loc cc0_scratch1 ↦{fullShare} g1) : sProp 𝕄) = (Memref.whole cc0_scratch1).view.loc (thrV d L) ↦{fullShare} g1 from rfl)) $$ HY
  ihave HZ := (Entails.of_eq (show (((thrV d L).loc cc0_scratch2 ↦{fullShare} g2) : sProp 𝕄) = (Memref.whole cc0_scratch2).view.loc (thrV d L) ↦{fullShare} g2 from rfl)) $$ HZ
  ihave HQ := (Entails.of_eq (show (((thrV d L).loc cc0_scratch3 ↦{fullShare} g3) : sProp 𝕄) = (Memref.whole cc0_scratch3).view.loc (thrV d L) ↦{fullShare} g3 from rfl)) $$ HQ
  ihave HO := (Entails.of_eq (show (((thrV d L).loc cc0_scratch4 ↦{fullShare} g4) : sProp 𝕄) = (Memref.whole cc0_scratch4).view.loc (thrV d L) ↦{fullShare} g4 from rfl)) $$ HO
  ihave HB := (Entails.of_eq (show (((thrV d L).loc cc0_scratch5 ↦{fullShare} g5) : sProp 𝕄) = (Memref.whole cc0_scratch5).view.loc (thrV d L) ↦{fullShare} g5 from rfl)) $$ HB
  ihave HI := (Entails.of_eq (show (((thrV d L).loc cc0_scratch6 ↦{fullShare} g6) : sProp 𝕄) = (Memref.whole cc0_scratch6).view.loc (thrV d L) ↦{fullShare} g6 from rfl)) $$ HI
  sl_exec
  unfold tile_body.sl.dma0 tile_body.sl.dma0_1 tile_body.sl.dma0_2 tile_body.sl.dma0_3
  ihave HX := (Entails.of_eq (landX d L g0 X)) $$ HX
  ihave HY := (Entails.of_eq (landY d L g1 Y)) $$ HY
  ihave HZ := (Entails.of_eq (landZ d L g2 Z)) $$ HZ
  ihave HQ := (Entails.of_eq (landQ d L g3 Q)) $$ HQ
  sl_for (fun (n : ℕ) (_ : Unit) => iprop(∃ bd bi fo, ⌜Done L X Y Z Q n fo⌝ ∗ six d L X Y Z Q bd bi ∗ outB d L fo)) $$ [HX HY HZ HQ HB HI HO]
  case region =>
    intro j _
    iintro ⟨%bd, %bi, %fo, %hfo, H⟩
    iapply (t1_region d L _ _ _ _ bd bi fo j hfo)
    iexact H
  · iexists g5, g6, g4
    isplitr
    · ipureintro; exact done_zero L _ _ _ _ _
    isplitl [HX HY HZ HQ HB HI]
    · unfold six
      isplitl [HX]; · iexact HX
      isplitl [HY]; · iexact HY
      isplitl [HZ]; · iexact HZ
      isplitl [HQ]; · iexact HQ
      isplitl [HB]; · iexact HB
      iexact HI
    · unfold outB; iexact HO
  iintro %_ HS
  rw [show Scf.trips k0_t1_loop.lb k0_t1_loop.ub k0_t1_loop.st = 48 from t1_trips]
  icases HS with ⟨%bd, %bi, %fo, %hfo, HS, HO⟩
  unfold six outB
  icases HS with ⟨HX, HY, HZ, HQ, HB, HI⟩
  sl_exec
  sl_step
  unfold tile_body.sl.dma0_4
  ihave Ho := (Entails.of_eq (landO d L X Y Z Q fo hfo f0)) $$ Ho
  isplitl [Ho]; · iexact Ho
  isplitl [HX HY HZ HQ HO HB HI Hbufs]
  · isplitr [Hbufs]
    rotate_left
    · iexact Hbufs
    isplitl [HX]; · iexists _; iexact HX
    isplitl [HY]; · iexists _; iexact HY
    isplitl [HZ]; · iexists _; iexact HZ
    isplitl [HQ]; · iexists _; iexact HQ
    isplitl [HO]; · iexists _; iexact HO
    isplitl [HB]; · iexists _; iexact HB
    isplitl [HI]; · iexists _; iexact HI
    iempintro
  isplitl [Hs0 Hs1 Hs2 Hs3 Hs4 Hsems]
  · isplitr [Hsems]
    rotate_left
    · iexact Hsems
    isplitl [Hs0]; · iexact Hs0
    isplitl [Hs1]; · iexact Hs1
    isplitl [Hs2]; · iexact Hs2
    isplitl [Hs3]; · iexact Hs3
    isplitl [Hs4]; · iexact Hs4
    iempintro
  iexists _
  isplitr
  rotate_left
  · iexact HW
  ipureintro
  intro p hp
  simp only [Finset.mem_insert] at hp
  rcases hp with rfl | rfl | rfl | rfl | rfl | hp
  · exact .inr rfl
  · exact .inr rfl
  · exact .inr rfl
  · exact .inr rfl
  · exact .inr rfl
  · exact .inl hp

end Tile

end Cert.Proof

end
-- ==== Proof.Pay.lean ====
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! What the handshakes of the SparseCore call carry: each tile is handed a read share of the four arrays and its
    block of the result, and hands back the block finished. -/

theorem nSub_zero : (K (F := F)).nSub 0 = 16 := rfl
theorem nCore_zero : (K (F := F)).nCore 0 = 2 := rfl

/-- The coordinates of tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
def tileAt (c : Fin 2) (i : Fin 16) : grid0.Coords := coordsV c i
def tileShare (c i : ℕ) : PosShare TreeShare := Transfers.shareTokN (Transfers.shareTokN fullShare c) i

def goP (I : Ins F) (d : Dev nD) (c : Fin 2) (i : Fin 16) : sProp 𝕄 :=
  goT d (tileAt c i) (tileShare c.val i.val) (I.X d) (I.Y d) (I.Z d) (I.Q d)
def tdP (I : Ins F) (d : Dev nD) (c : Fin 2) (i : Fin 16) : sProp 𝕄 :=
  tdT d (tileAt c i) (I.X d) (I.Y d) (I.Z d) (I.Q d)

instance (I : Ins F) (d : Dev nD) (c : Fin 2) (i : Fin 16) : BI.Storable (upEmb : UEmb _ 𝕄) (goP I d c i) := by
  unfold goP goT
  haveI : ∀ f, BI.Storable (upEmb : UEmb _ 𝕄) ((oSl (tileAt c i)).view.loc (thrV d (tileAt c i)) ↦[(oSl (tileAt c i)).view.set]{fullShare} f) :=
    fun f => inferInstance
  haveI : BI.Storable (upEmb : UEmb _ 𝕄) iprop(∃ f, (oSl (tileAt c i)).view.loc (thrV d (tileAt c i)) ↦[(oSl (tileAt c i)).view.set]{fullShare} f) :=
    inferInstance
  infer_instance
instance (I : Ins F) (d : Dev nD) (c : Fin 2) (i : Fin 16) : BI.Storable (upEmb : UEmb _ 𝕄) (tdP I d c i) := by
  unfold tdP tdT; infer_instance

def P (I : Ins F) : (K (F := F)).Pay (nD := nD) (Val := Elt F) (Name := ℕ) (U := UU) where
  st := fun q d c => match q with | 0 => bigSep Finset.univ (goP I d (Fin.cast nCore_zero c))
  dn := fun q d c => match q with | 0 => bigSep Finset.univ (tdP I d (Fin.cast nCore_zero c))
  go := fun q d c i => match q with | 0 => goP I d (Fin.cast nCore_zero c) (Fin.cast nSub_zero i)
  td := fun q d c i => match q with | 0 => tdP I d (Fin.cast nCore_zero c) (Fin.cast nSub_zero i)
  x := fun _ _ => iprop(emp)

instance P_storable (I : Ins F) : (P (F := F) I).IsStorable where
  st q d c := match q with
    | 0 => (inferInstance : BI.Storable (upEmb : UEmb _ 𝕄) (bigSep Finset.univ (goP I d (Fin.cast nCore_zero c))))
  dn q d c := match q with
    | 0 => (inferInstance : BI.Storable (upEmb : UEmb _ 𝕄) (bigSep Finset.univ (tdP I d (Fin.cast nCore_zero c))))
  go q d c i := match q with
    | 0 => (inferInstance : BI.Storable (upEmb : UEmb _ 𝕄) (goP I d (Fin.cast nCore_zero c) (Fin.cast nSub_zero i)))
  td q d c i := match q with
    | 0 => (inferInstance : BI.Storable (upEmb : UEmb _ 𝕄) (tdP I d (Fin.cast nCore_zero c) (Fin.cast nSub_zero i)))

/-- The body table's row at a vector subcore. -/
theorem defs₀_vector (c : Fin τ.nSC) (s : Fin τ.nSub) :
    defs₀ (F := F) (.scVector c s) 0 ()
      = SparseCore.onTile hcore0 hsub0 (fun c s => cc0_sc_kernel (coordsV c s) (Memref.whole main_v7_scv) (Memref.isWhole_whole _) (Memref.whole main_v9_scv) (Memref.isWhole_whole _) (Memref.whole main_v11_scv) (Memref.isWhole_whole _) (Memref.whole main_v5_scv) (Memref.isWhole_whole _) (Memref.whole main_v12_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨H1, H2, H3, %W', %h, H4⟩
  isplitl [H1]; · iexact H1
  isplitl [H2]; · iexact H2
  isplitl [H3]; · iexact H3
  iexists W'
  isplitr
  · ipureintro; exact fun p hp => (h p hp).imp id Or.inl
  iexact H4

/-- Every tile's obligation: the tile body, at the tile's coordinates. -/
theorem tileObl (I : Ins F) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) scFacts _ (I.X d) (I.Y d) (I.Z d) (I.Q d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit (I : Ins F) : (K (F := F)).VecSplit' (P I) 0 := by
  intro d c
  show bigSep Finset.univ (goP I d (Fin.cast nCore_zero c)) ⊢ |={Set.univ}=> iprop(
      (bigSep Finset.univ fun i : Fin ((K (F := F)).nSub 0) => goP I d (Fin.cast nCore_zero c) (Fin.cast nSub_zero i))
      ∗ ((bigSep Finset.univ fun i : Fin ((K (F := F)).nSub 0) => tdP I d (Fin.cast nCore_zero c) (Fin.cast nSub_zero i))
          -∗ bigSep Finset.univ (tdP I d (Fin.cast nCore_zero c))))
  rw [bigSep_tasks (goP I d (Fin.cast nCore_zero c)), bigSep_tasks (tdP I d (Fin.cast nCore_zero c))]
  iintro H; imodintro
  isplitl [H]; · iexact H
  iintro H; iexact H

/-! The blocks of the result split it. -/

theorem mem_oSl (L : grid0.Coords) (x : S24576.Idx) :
    x ∈ (oSl L).view.set ↔ 1536 * (L 1).val + 768 * (L 0).val ≤ (x 0).val ∧ (x 0).val < 1536 * (L 1).val + 768 * (L 0).val + 768 := by
  constructor
  · intro h
    obtain ⟨y, -, rfl⟩ := Finset.mem_map.mp h
    have hy : (y 0).val < 768 := (y 0).isLt
    rw [oSl_emb]
    show _ ≤ 1536 * (L 1).val + 768 * (L 0).val + (y 0).val ∧ 1536 * (L 1).val + 768 * (L 0).val + (y 0).val < _
    omega
  · intro h
    refine Finset.mem_map.mpr ⟨(fun | 0 => ⟨(x 0).val - (1536 * (L 1).val + 768 * (L 0).val), by show _ < 768; omega⟩ : S768.Idx), Finset.mem_univ _, ?_⟩
    rw [oSl_emb]
    funext a
    match a with
    | 0 =>
      refine Fin.ext ?_
      show 1536 * (L 1).val + 768 * (L 0).val + ((x 0).val - (1536 * (L 1).val + 768 * (L 0).val)) = (x 0).val
      omega

abbrev blkOf (ci : Fin 2 × Fin 16) : Finset S24576.Idx := (oSl (tileAt ci.1 ci.2)).view.set

theorem mem_blkOf (ci : Fin 2 × Fin 16) (x : S24576.Idx) :
    x ∈ blkOf ci ↔ 1536 * ci.2.val + 768 * ci.1.val ≤ (x 0).val ∧ (x 0).val < 1536 * ci.2.val + 768 * ci.1.val + 768 := mem_oSl _ x

theorem blk_disjoint : ∀ s ∈ (Finset.univ : Finset (Fin 2 × Fin 16)), ∀ t ∈ (Finset.univ : Finset (Fin 2 × Fin 16)), s ≠ t → Disjoint (blkOf s) (blkOf t) := by
  intro s _ t _ hst
  refine Finset.disjoint_left.mpr fun x h1 h2 => hst ?_
  rw [mem_blkOf] at h1 h2
  have := s.1.isLt; have := t.1.isLt
  exact Prod.ext (Fin.ext (by omega)) (Fin.ext (by omega))

theorem blk_cover : (Finset.univ : Finset (Fin 2 × Fin 16)).biUnion blkOf = Finset.univ := by
  ext x
  simp only [Finset.mem_biUnion, Finset.mem_univ, true_and, iff_true]
  have hx : (x 0).val < 24576 := (x 0).isLt
  refine ⟨(⟨(x 0).val / 768 % 2, by omega⟩, ⟨(x 0).val / 1536, by omega⟩), ?_⟩
  rw [mem_blkOf]
  show 1536 * ((x 0).val / 1536) + 768 * ((x 0).val / 768 % 2) ≤ _ ∧ _ < 1536 * ((x 0).val / 1536) + 768 * ((x 0).val / 768 % 2) + 768
  omega

theorem oPts_blocks (d : Dev nD) (f : Buf (Elt F) (oLoc d)) :
    (oLoc d ↦{fullShare} f : sProp 𝕄)
      = bigSep Finset.univ fun c : Fin 2 => bigSep Finset.univ fun i : Fin 16 => oLoc d ↦[blkOf (c, i)]{fullShare} f := by
  rw [← bigSep_univ_prod (fun ci : Fin 2 × Fin 16 => (oLoc d ↦[blkOf ci]{fullShare} f : sProp 𝕄)),
    ← pointsTo_biUnion Finset.univ (ℓ := oLoc d) blkOf blk_disjoint, blk_cover]

theorem drop_left {A B : sProp 𝕄} : iprop(A ∗ B) ⊢ B := by
  iintro ⟨-, H⟩
  iexact H

theorem deal_core (ℓ : Loc nD τ sig) (f : Buf (Elt F) ℓ) (q : PosShare TreeShare) :
    (ℓ ↦{q} f : sProp 𝕄) ⊢ bigSep Finset.univ fun i : Fin 16 => ℓ ↦{Transfers.shareTokN q i.val} f := by
  refine (Transfers.pointsTo_toks_split q 16).trans ?_
  iintro ⟨-, H⟩
  iexact H

/-- A whole array dealt to the tiles, a read share each. -/
theorem deal (ℓ : Loc nD τ sig) (f : Buf (Elt F) ℓ) :
    (ℓ ↦{fullShare} f : sProp 𝕄) ⊢ bigSep Finset.univ fun c : Fin 2 => bigSep Finset.univ fun i : Fin 16 => ℓ ↦{tileShare c.val i.val} f := by
  refine (Transfers.pointsTo_toks_split fullShare 2).trans ?_
  exact BI.Entails.trans drop_left (bigSep_mono fun c _ => deal_core ℓ f (Transfers.shareTokN fullShare c.val))

theorem go_intro (I : Ins F) (d : Dev nD) (c : Fin 2) (i : Fin 16) (fo : Buf (Elt F) (oLoc d)) :
    iprop((xLoc d ↦{tileShare c.val i.val} I.X d) ∗ (yLoc d ↦{tileShare c.val i.val} I.Y d) ∗ (zLoc d ↦{tileShare c.val i.val} I.Z d)
        ∗ (qLoc d ↦{tileShare c.val i.val} I.Q d) ∗ (oLoc d ↦[blkOf (c, i)]{fullShare} fo)) ⊢ (goP I d c i : sProp 𝕄) := by
  unfold goP goT
  iintro ⟨HX, HY, HZ, HQ, HO⟩
  isplitl [HX]; · iexact HX
  isplitl [HY]; · iexact HY
  isplitl [HZ]; · iexact HZ
  isplitl [HQ]; · iexact HQ
  iexists _; iexact HO

/-- What the call starts from, out of the five arrays whole. -/
theorem st_intro (I : Ins F) (d : Dev nD) (fo : Buf (Elt F) (oLoc d)) :
    iprop((xLoc d ↦{fullShare} I.X d) ∗ (yLoc d ↦{fullShare} I.Y d) ∗ (zLoc d ↦{fullShare} I.Z d) ∗ (qLoc d ↦{fullShare} I.Q d) ∗ (oLoc d ↦{fullShare} fo))
      ⊢ (bigSep Finset.univ fun c : Fin ((K (F := F)).nCore 0) => (P I).st 0 d c : sProp 𝕄) := by
  show _ ⊢ (bigSep Finset.univ fun c : Fin ((K (F := F)).nCore 0) => bigSep Finset.univ (goP I d (Fin.cast nCore_zero c)) : sProp 𝕄)
  rw [bigSep_cores (fun c => bigSep Finset.univ (goP I d c))]
  iintro ⟨HX, HY, HZ, HQ, HO⟩
  ihave HX := (deal _ _) $$ HX
  ihave HY := (deal _ _) $$ HY
  ihave HZ := (deal _ _) $$ HZ
  ihave HQ := (deal _ _) $$ HQ
  ihave HO := (Entails.of_eq (oPts_blocks d fo)) $$ HO
  have key : iprop((bigSep Finset.univ fun c : Fin 2 => bigSep Finset.univ fun i : Fin 16 => xLoc d ↦{tileShare c.val i.val} I.X d)
      ∗ (bigSep Finset.univ fun c : Fin 2 => bigSep Finset.univ fun i : Fin 16 => yLoc d ↦{tileShare c.val i.val} I.Y d)
      ∗ (bigSep Finset.univ fun c : Fin 2 => bigSep Finset.univ fun i : Fin 16 => zLoc d ↦{tileShare c.val i.val} I.Z d)
      ∗ (bigSep Finset.univ fun c : Fin 2 => bigSep Finset.univ fun i : Fin 16 => qLoc d ↦{tileShare c.val i.val} I.Q d)
      ∗ (bigSep Finset.univ fun c : Fin 2 => bigSep Finset.univ fun i : Fin 16 => oLoc d ↦[blkOf (c, i)]{fullShare} fo))
      ⊢ (bigSep Finset.univ fun c : Fin 2 => bigSep Finset.univ (goP I d c) : sProp 𝕄) := by
    rw [← bigSep_sep', ← bigSep_sep', ← bigSep_sep', ← bigSep_sep']
    refine bigSep_mono fun c _ => ?_
    rw [← bigSep_sep', ← bigSep_sep', ← bigSep_sep', ← bigSep_sep']
    refine bigSep_mono fun i _ => ?_
    exact go_intro I d c i fo
  iapply key
  isplitl [HX]; · iexact HX
  isplitl [HY]; · iexact HY
  isplitl [HZ]; · iexact HZ
  isplitl [HQ]; · iexact HQ
  iexact HO

/-- What the call leaves: the result whole. -/
theorem dn_elim (I : Ins F) (d : Dev nD) :
    (bigSep Finset.univ fun c : Fin ((K (F := F)).nCore 0) => (P I).dn 0 d c : sProp 𝕄)
      = (oLoc d ↦{fullShare} scOut (I.X d) (I.Y d) (I.Z d) (I.Q d)) := by
  rw [oPts_blocks]
  exact bigSep_cores (fun c => bigSep Finset.univ (tdP I d c))

end Cert.Proof

end
-- ==== Proof.Region.lean ====
module

public import proofs.«01_k».proof.Proof.Pay
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! # The TensorCore kernel: one block of 512 rows per grid point -/

/-! ## The sixteen rounds, as functions of the block of distances -/

/-- The columns' numbers, as floats. -/
abbrev cols : FVec F S512x2048 .f32 := k1_pay5

/-- The least entry of each row. -/
def rowMin (d : FVec F S512x2048 .f32) : FVec F S512 .f32 :=
  multiReduction .minimumf [1] S512 d 0x7F800000#32 reduces_S512x2048_S512 (.inl rfl) rfl

/-- Where a row's entry is at most the given number of its row. -/
def atMost (d : FVec F S512x2048 .f32) (r : FVec F S512 .f32) : IVec S512x2048 1 :=
  cmpf .ole d (broadcastTo S512x2048 (shapeCast S512x1 r shapeCasts_S512_S512x1) broadcasts_S512x1_S512x2048)

/-- The least marked column of each row (2048 when none is marked). -/
def firstOf (p : IVec S512x2048 1) : FVec F S512 .f32 :=
  rowMin (select p cols (broadcast S512x2048 (Scalar.ofBits .f32 0x45000000#32)))

/-- The column of each row's least entry, the lower one among equals. -/
def argMin (d : FVec F S512x2048 .f32) : FVec F S512 .f32 := firstOf (atMost d (rowMin d))

/-- The same as a column. -/
abbrev argCol (d : FVec F S512x2048 .f32) : FVec F S512x1 .f32 := shapeCast S512x1 (argMin d) shapeCasts_S512_S512x1

/-- Where a column's number is the given one of its row. -/
def isCol (c : FVec F S512x1 .f32) : IVec S512x2048 1 :=
  cmpf .oeq (cols (F := F)) (broadcastTo S512x2048 c broadcasts_S512x1_S512x2048)

/-- The distances with each row's least entry raised to infinity. -/
def raised (d : FVec F S512x2048 .f32) : FVec F S512x2048 .f32 :=
  select (isCol (argCol d)) (broadcast S512x2048 (Scalar.ofBits .f32 0x7F800000#32)) d

/-- The distances after `n` rounds. -/
def after : ℕ → FVec F S512x2048 .f32 → FVec F S512x2048 .f32
  | 0, d => d
  | n + 1, d => raised (after n d)

/-- The sixteen columns found, one per round. -/
def sixteen (d : FVec F S512x2048 .f32) : FVec F S512x16 .f32 :=
  k1_pay2 (argCol (after 0 d)) (argCol (after 1 d)) (argCol (after 2 d)) (argCol (after 3 d)) (argCol (after 4 d)) (argCol (after 5 d)) (argCol (after 6 d))
    (argCol (after 7 d)) (argCol (after 8 d)) (argCol (after 9 d)) (argCol (after 10 d)) (argCol (after 11 d)) (argCol (after 12 d)) (argCol (after 13 d))
    (argCol (after 14 d)) (k1_pay1 cols (atMost (after 15 d) (rowMin (after 15 d))) (Scalar.ofBits .f32 0x45000000#32))

/-! ## The printed values are these -/

theorem part1_mask (x : Vec F S1x512x8 .f32) (y : Vec F S1x8x2048 .f32) : k1_pay6 x y = atMost (k1_pay4 x y) (rowMin (k1_pay4 x y)) := rfl

/-- The number past the last column, and infinity, as the rounds write them. -/
abbrev past : F .f32 := Scalar.ofBits .f32 0x45000000#32
abbrev topv : F .f32 := Scalar.ofBits .f32 0x7F800000#32

section Rounds
variable (d : FVec F S512x2048 .f32)

theorem part2_0 : k1_pay7 cols (atMost d (rowMin d)) past = argCol d := rfl
theorem part2_1 : k1_pay8 d cols (atMost d (rowMin d)) past = raised d := rfl
theorem part2_2 : k1_pay9 d cols (atMost d (rowMin d)) past = argCol (raised d) := rfl
theorem part2_3 : k1_pay10 d cols (atMost d (rowMin d)) past = raised (raised d) := rfl
theorem part2_4 : k1_pay11 d cols (atMost d (rowMin d)) past = argCol (raised (raised d)) := rfl
theorem part2_5 : k1_pay12 d cols (atMost d (rowMin d)) past = raised (raised (raised d)) := rfl
theorem part2_6 : k1_pay13 d cols (atMost d (rowMin d)) past = argCol (raised (raised (raised d))) := rfl
theorem part2_7 : k1_pay14 d cols (atMost d (rowMin d)) past = raised (raised (raised (raised d))) := rfl
theorem part2_8 : k1_pay15 d cols (atMost d (rowMin d)) past = rowMin (raised (raised (raised (raised d)))) := rfl
theorem part3_0 : k1_pay16 cols d (rowMin d) = argCol d := rfl
theorem part3_2 : k1_pay18 cols d (rowMin d) = argCol (raised d) := rfl
theorem part3_4 : k1_pay20 cols d (rowMin d) = argCol (raised (raised d)) := rfl
theorem part3_5 : k1_pay21 cols d (rowMin d) = raised (raised (raised d)) := rfl
theorem part3_6 : k1_pay22 cols d (rowMin d) = argCol (raised (raised (raised d))) := rfl
theorem part3_7 : k1_pay23 cols d (rowMin d) = isCol (argCol (raised (raised (raised d)))) := rfl
theorem part4_0 : k1_pay25 cols d (isCol (argCol d)) topv = argCol (raised d) := rfl
theorem part4_2 : k1_pay27 cols d (isCol (argCol d)) topv = argCol (raised (raised d)) := rfl
theorem part4_4 : k1_pay29 cols d (isCol (argCol d)) topv = argCol (raised (raised (raised d))) := rfl
theorem part4_5 : k1_pay30 cols d (isCol (argCol d)) topv = raised (raised (raised (raised d))) := rfl
theorem part4_6 : k1_pay31 cols d (isCol (argCol d)) topv = argMin (raised (raised (raised (raised d)))) := rfl
theorem part5_0 : k1_pay32 (argMin d) = argCol d := rfl
theorem part5_2 : k1_pay34 cols d (argMin d) = argCol (raised d) := rfl
theorem part5_4 : k1_pay36 cols d (argMin d) = argCol (raised (raised d)) := rfl
theorem part5_6 : k1_pay38 cols d (argMin d) = argCol (raised (raised (raised d))) := rfl
theorem part5_7 : k1_pay39 cols d (argMin d)
    = atMost (raised (raised (raised (raised d)))) (rowMin (raised (raised (raised (raised d))))) := rfl

end Rounds

/-! ## The body's triple -/

abbrev rX : Rect S1x512x8 := Rect.unit (s := S1x512x8) ![0, 0, 0] S1x512x8.size inb_S1x512x8_S1x512x8_0_0_0
abbrev rY : Rect S1x8x2048 := Rect.unit (s := S1x8x2048) ![0, 0, 0] S1x8x2048.size inb_S1x8x2048_S1x8x2048_0_0_0
abbrev rO : Rect S1x512x16 := Rect.unit (s := S1x512x16) ![0, 0, 0] S1x512x16.size inb_S1x512x16_S1x512x16_0_0_0

/-- The batch a grid point works on, as the body computes it: the point's number by four, rounded down. -/
def batchOf (i : grid1.Coords) : BitVec 32 :=
  Scalar.select
    (Scalar.andi
      (Scalar.cmpi .ne (Scalar.subi (Scalar.extui (Scalar.cmpi .sgt (BitVec.ofNat 32 (i 0).val) 0#32)) (Scalar.extui (Scalar.cmpi .slt (BitVec.ofNat 32 (i 0).val) 0#32)))
        (Scalar.subi (Scalar.extui (Scalar.cmpi .sgt 4#32 0#32)) (Scalar.extui (Scalar.cmpi .slt 4#32 0#32))))
      (Scalar.cmpi .ne (Scalar.remsi (BitVec.ofNat 32 (i 0).val) 4#32) 0#32))
    (Scalar.subi (Scalar.divsi (BitVec.ofNat 32 (i 0).val) 4#32) 1#32) (Scalar.divsi (BitVec.ofNat 32 (i 0).val) 4#32)

/-- The body's result block, from the block of 512 points and the batch's 2048. -/
def blkOut (i : grid1.Coords) (x : Vec F S1x512x8 .f32) (y : Vec F S1x8x2048 .f32) : Vec F S1x512x16 .i32 :=
  View.canon [⟨rO, k1_pay3 (batchOf i) (sixteen (k1_pay4 (View.ld x rX) (View.ld y rY)))⟩]

theorem blk_covers (p : Vec F S1x512x16 .i32) (y : S1x512x16.Idx) :
    ∃ pc ∈ ([⟨rO, p⟩] : List (View.Piece (Elt F) S1x512x16 .i32)), y ∈ pc.1.set :=
  View.cover_of_tiled [⟨rO, p⟩] S1x512x16.size (by rfl) y

set_option maxHeartbeats 1000000 in
/-- The body on whole staging buffers: it reads the two input blocks and leaves `blkOut` of them in the third. -/
theorem block_body (c : Dev nD) (E : Set ℕ) (i : grid1.Coords) (a1 : Memref sig .tc .vmem S1x512x8 .f32) (h1 : a1.IsWhole)
    (a2 : Memref sig .tc .vmem S1x8x2048 .f32) (h2 : a2.IsWhole) (a3 : Memref sig .tc .vmem S1x512x16 .i32) (h3 : a3.IsWhole)
    (x : Vec F S1x512x8 .f32) (y : Vec F S1x8x2048 .f32) (Q : PUnit → sProp 𝕄) :
    iprop(owns (c.tc : Thread nD τ) a1 fullShare x ∗ owns (c.tc : Thread nD τ) a2 fullShare y ∗ (∃ z, owns (c.tc : Thread nD τ) a3 fullShare z)
        ∗ (iprop(owns (c.tc : Thread nD τ) a1 fullShare x ∗ owns (c.tc : Thread nD τ) a2 fullShare y ∗ owns (c.tc : Thread nD τ) a3 fullShare (blkOut i x y)) -∗ Q ⟨⟩))
      ⊢ wp frame (wpE (defs₀ (F := F)) 𝒱₀ (c.tc : Thread nD τ) none) E (cc1__knn_block i a1 h1 a2 h2 a3 h3) Q := by
  simp only [cc1__knn_block_eq_skeleton]; unfold cc1__knn_block_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (blk_covers _)).trans ?_
  rfl

/-! ## The pipeline's proof data -/

section Region
variable (W₀ : (d : Dev nD) → (b : Ref sig .tc) → Buf (Elt F) ((d.tc : Thread nD τ).loc b))

/-- A window's block at a point, read off its array as the region finds it. -/
def blkAt (c : Dev nD) (w : Fin cfg1.W) (t : Fin cfg1.N) : ((cfg1.win w).xblock (cfg1.grid.coords t)).Idx → Elt F (cfg1.win w).elt :=
  ((cfg1.win w).blk t).view.read (Elt F) (W₀ c (Pipeline.arrRef spec1 w))

/-- The core's recorded waits stay below the level its handshakes have reached. -/
def okWaits (c : Dev nD) : Set (SemLoc sig × HIx 1) := {p | (K (F := F)).lev (T c, p.1) p.2 ≤ 8}

def dat (c : Dev nD) : Pipeline.Dat τ (Elt F) (HIx 1) ℕ UU ℕ cfg1 c where
  A w := W₀ c (Pipeline.arrRef spec1 w)
  after w t := match w with
    | ⟨0, _⟩ => blkAt W₀ c 0 t
    | ⟨1, _⟩ => blkAt W₀ c 1 t
    | ⟨2, _⟩ => blkOut (grid1.coords t) (blkAt W₀ c 0 t) (blkAt W₀ c 1 t)
  Φ _ := iprop(emp)
  q _ := fullShare
  owed _ := 0
  recorded _ := okWaits (F := F) c

theorem dat_A (c : Dev nD) (w : Fin cfg1.W) : (dat W₀ c).A w = W₀ c (Pipeline.arrRef spec1 w) := by dsimp only [dat]
theorem dat_after0 (c : Dev nD) (t : Fin cfg1.N) : (dat W₀ c).after 0 t = blkAt W₀ c 0 t := by dsimp only [dat]
theorem dat_after1 (c : Dev nD) (t : Fin cfg1.N) : (dat W₀ c).after 1 t = blkAt W₀ c 1 t := by dsimp only [dat]
theorem dat_after2 (c : Dev nD) (t : Fin cfg1.N) :
    (dat W₀ c).after 2 t = blkOut (grid1.coords t) (blkAt W₀ c 0 t) (blkAt W₀ c 1 t) := by dsimp only [dat]

/-- The block of rows is in place before the body, fetched at the point or kept from an earlier one. -/
theorem dat_before0 (c : Dev nD) (t : Fin cfg1.N) (z) : (dat W₀ c).before 0 t z = blkAt W₀ c 0 t :=
  ((dat W₀ c).before_in_eq_fetched 0 rfl (fun _ => rfl) (fun _ _ _ => rfl)
      (fun t => by rw [dat_after0]; unfold Pipeline.Dat.blockOf blkAt; rw [dat_A]; try rfl) t z).trans
    (by unfold Pipeline.Dat.fetched Pipeline.Dat.blockOf blkAt; rw [dat_A]; try rfl)
/-- So is the batch. -/
theorem dat_before1 (c : Dev nD) (t : Fin cfg1.N) (z) : (dat W₀ c).before 1 t z = blkAt W₀ c 1 t :=
  ((dat W₀ c).before_in_eq_fetched 1 rfl (fun _ => rfl) (fun _ _ _ => rfl)
      (fun t => by rw [dat_after1]; unfold Pipeline.Dat.blockOf blkAt; rw [dat_A]; try rfl) t z).trans
    (by unfold Pipeline.Dat.fetched Pipeline.Dat.blockOf blkAt; rw [dat_A]; try rfl)

def atPre (c : Dev nD) (t : Fin cfg1.N) : sProp 𝕄 :=
  iprop((dat W₀ c).Φ t.castSucc ∗ (dat W₀ c).owesAt none t.castSucc
    ∗ (∃ z, owns (c.tc : Thread nD τ) (st1_0 t) fullShare ((dat W₀ c).before 0 t z))
    ∗ (∃ z, owns (c.tc : Thread nD τ) (st1_1 t) fullShare ((dat W₀ c).before 1 t z))
    ∗ (∃ z, owns (c.tc : Thread nD τ) (st1_2 t) fullShare ((dat W₀ c).before 2 t z)))

def atPost (c : Dev nD) (t : Fin cfg1.N) : sProp 𝕄 :=
  iprop((dat W₀ c).Φ t.succ ∗ (dat W₀ c).owesAt none t.succ
    ∗ owns (c.tc : Thread nD τ) (st1_0 t) fullShare ((dat W₀ c).after 0 t)
    ∗ owns (c.tc : Thread nD τ) (st1_1 t) fullShare ((dat W₀ c).after 1 t)
    ∗ owns (c.tc : Thread nD τ) (st1_2 t) fullShare ((dat W₀ c).after 2 t))

theorem at_body (c : Dev nD) (t : Fin cfg1.N) :
    atPre W₀ c t ⊢ wp frame (wpE (defs₀ (F := F)) 𝒱₀ (c.tc : Thread nD τ) none) Set.univ (bodyAt1 t) (fun _ => atPost W₀ c t) := by
  unfold atPre atPost bodyAt1
  simp only [dat_before0, dat_before1]
  rw [show (dat W₀ c).Φ t.succ = (dat W₀ c).Φ t.castSucc from rfl,
    show (dat W₀ c).owesAt none t.succ = (dat W₀ c).owesAt none t.castSucc from rfl,
    dat_after0, dat_after1, dat_after2]
  iintro ⟨HΦ, Ho, ⟨%d0, H0⟩, ⟨%d1, H1⟩, ⟨%d2, H2⟩⟩
  iapply (block_body c Set.univ (grid1.coords t) _ _ _ _ _ _ (blkAt W₀ c 0 t) (blkAt W₀ c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row_tc (t : Fin cfg1.N) : defs₀ (F := F) .tc cfg1.body (cfg1.bodyArgs t (cfg1.slots t)) = bodyAt1 t := rfl

theorem bodyObl (c : Dev nD) : Pipeline.BodyObligation (dat W₀ c) (defs₀ (F := F)) 𝒱₀ none Set.univ := fun t => by
  rw [bigSep_W1, bigSep_W1, row_tc]
  exact triple_restated (at_body W₀ c t) rfl .rfl fun _ => .rfl

/-! ## The region as a step of @main -/

abbrev adm : (p : Fin 1) → (pcfgs (F := F) p).Adm := fun p => (cfgs p).toPCfg_adm

def dats : (p : Fin 1) → (c : Dev nD) → Pipeline.Dat τ (Elt F) (HIx 1) ℕ UU ℕ (Pipeline.pin (pcfgs (F := F)) adm p) c
  | 0 => dat W₀

theorem bigSep_none {M : Type} [URA M] (Φ : Fin 0 → sProp M) : bigSep Finset.univ Φ = (BI.emp : sProp M) :=
  bigSep_univ_eq_bigSepL [] (by decide) (by decide) Φ

theorem tables (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The core's waits, none of them above the level its handshakes have reached, nothing owed. -/
def idle (c : Dev nD) : sProp 𝕄 :=
  iprop(∃ W, ⌜(K (F := F)).WBelow (T c) W 8⌝ ∗ owes (T c) (0 : CellTallies nD τ sig (HIx 1)) W)

theorem idle_in (c : Dev nD) (t : Fin (cfg1.N + 1)) : (idle (F := F) c) ⊢ ((dat W₀ c).owesAt none t : sProp 𝕄) := by
  unfold idle Pipeline.Dat.owesAt Pipeline.owesWithin Pipeline.Dat.bound
  iintro ⟨%W, %hW, HO⟩
  iexists W; isplitr
  · ipureintro; exact fun p hp => Or.inl (hW p hp)
  iexact HO

theorem idle_out (c : Dev nD) (t : Fin (cfg1.N + 1)) : ((dat W₀ c).owesAt none t : sProp 𝕄) ⊢ idle (F := F) c := by
  unfold idle Pipeline.Dat.owesAt Pipeline.owesWithin Pipeline.Dat.bound
  iintro ⟨%W, %hW, HO⟩
  iexists W; isplitr
  · ipureintro
    intro p hp
    rcases hW hp with h | ⟨w, s, h⟩
    · exact h
    · subst h; exact Nat.zero_le _
  iexact HO

/-- The region's arrays: the rows, the batches, the result. -/
abbrev uLoc (d : Dev nD) : Loc nD τ sig := (SparseCore.T d).loc main_v13
abbrev wLoc (d : Dev nD) : Loc nD τ sig := (SparseCore.T d).loc main_v14
abbrev rLoc (d : Dev nD) : Loc nD τ sig := (SparseCore.T d).loc main_v15

/-- The three arrays of the region, at given contents. -/
def three (c : Dev nD) (f₀ : Buf (Elt F) (uLoc c)) (f₁ : Buf (Elt F) (wLoc c)) (f₂ : Buf (Elt F) (rLoc c)) : sProp 𝕄 :=
  iprop((uLoc c ↦{fullShare} f₀) ∗ (wLoc c ↦{fullShare} f₁) ∗ (rLoc c ↦{fullShare} f₂))

theorem arrays_three (c : Dev nD) (G : (w : Fin cfg1.W) → Buf (Elt F) ((cfg1.win w).arr.view.loc (c.tc : Thread nD τ))) :
    ((dat W₀ c).arrays G : sProp 𝕄) = three c (G 0) (G 1) (G 2) := by
  unfold Pipeline.Dat.arrays three
  rw [bigSep_W1, (dat W₀ c).share_full (fun _ => rfl) 0, (dat W₀ c).share_full (fun _ => rfl) 1, (dat W₀ c).share_full (fun _ => rfl) 2]
  rw [show (cfg1.win 0).arr.view.set = Finset.univ from View.set_whole _, show (cfg1.win 1).arr.view.set = Finset.univ from View.set_whole _,
    show (cfg1.win 2).arr.view.set = Finset.univ from View.set_whole _]

/-- What the region leaves in its result. -/
abbrev found (c : Dev nD) : Buf (Elt F) (rLoc c) := (dat W₀ c).arrAt 2 cfg1.N

theorem arrays_start (c : Dev nD) : ((dat W₀ c).arrays ((dat W₀ c).arrAt · 0) : sProp 𝕄) = three c (W₀ c main_v13) (W₀ c main_v14) (W₀ c main_v15) := by
  rw [arrays_three]; rfl

theorem arrays_end (c : Dev nD) : ((dat W₀ c).arrays ((dat W₀ c).arrAt · cfg1.N) : sProp 𝕄) = three c (W₀ c main_v13) (W₀ c main_v14) (found W₀ c) := by
  rw [arrays_three, (dat W₀ c).arrAt_in 0 rfl, (dat W₀ c).arrAt_in 1 rfl]; rfl

def seg : Pipeline.RegionSeg (pcfgs (F := F)) adm (dats W₀) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (bodyObl W₀ c).loose
  hwaits := Pipeline.hwaits_of_owed_zero _ _ _ _ _ _ 0 fun _ _ => rfl
  pre c := iprop(three c (W₀ c main_v13) (W₀ c main_v14) (W₀ c main_v15) ∗ idle c)
  post c := iprop(three c (W₀ c main_v13) (W₀ c main_v14) (found W₀ c) ∗ idle c)
  X _ := iprop(emp)
  Y _ := iprop(emp)
  Z _ := iprop(emp)
  hentry c := by
    rw [Pipeline.ownSems0_none, tables, show (dats W₀ 0 c).arrays ((dats W₀ 0 c).arrAt · 0) = _ from arrays_start W₀ c]
    iintro ⟨⟨H, HO⟩, -, -⟩
    imodintro
    isplitl [H]; · iexact H
    isplitr; · iempintro
    isplitl [HO]; · iapply (idle_in W₀ c 0); iexact HO
    isplitr <;> iempintro
  hin c := by
    rw [show (dats W₀ 0 c).Φ 0 = iprop(emp) from rfl]
    iintro -; iempintro
  hout c := by
    rw [Pipeline.ownSems0_none, show (Pipeline.scopedRest (Ix := HIx 1) (Name := ℕ) (U := UU) (Lvl := ℕ) (Val := Elt F) (pcfgs (F := F) 0).spec c : sProp 𝕄) = BI.emp from scopedRest1_eq c]
    iintro -
    isplitr; · iempintro
    isplitr <;> iempintro
  hexit c := by
    rw [show (dats W₀ 0 c).arrays ((dats W₀ 0 c).arrAt · _) = _ from arrays_end W₀ c]
    iintro ⟨H, HO, -, -⟩
    imodintro
    isplitl [H]; · iexact H
    iapply (idle_out W₀ c _); iexact HO

/-- The region's ghost state on a core, as the launch deals it. -/
def ghost (c : Dev nD) : sProp 𝕄 :=
  iprop(Pipeline.cellsGhost (Pipeline.pin (pcfgs (F := F)) adm) EP 0 c ∗ Pipeline.toksInit (Pipeline.pin (pcfgs (F := F)) adm) EP 0 c)

theorem pinj : Function.Injective (Pipeline.cellOf (nD := nD) (τ := τ) (Pipeline.pin (pcfgs (F := F)) adm)) := cellOf_inj

include W₀ in
/-- The region's step, in the pipeline's own body table. -/
theorem region_step [∀ e, Nonempty (Elt F e)] (c : Dev nD) (Q : PUnit.{1} → sProp 𝕄) :
    iprop((iprop(boundary (c.tc : Thread nD τ) ∗ (seg W₀).post c) -∗ wp frame (wpE (D (F := F)) 𝒱 (c.tc : Thread nD τ) none) Set.univ (.ret ⟨⟩) Q)
        ∗ boundary (c.tc : Thread nD τ) ∗ (seg W₀).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) fun _ => .ret ⟨⟩) Q := by
  have h := Pipeline.RegionSeg.wp (pcfgs (F := F)) adm (dats W₀) none pinj EP defs₀ 𝒱₀ (K (F := F)).L (K (F := F)).lev (seg W₀) c none
    (fun u hu => absurd hu (Option.not_mem_none u)) (fun _ => .ret ⟨⟩) Q
  exact h

theorem seg_pre (c : Dev nD) : (seg W₀).pre c = iprop(three c (W₀ c main_v13) (W₀ c main_v14) (W₀ c main_v15) ∗ idle c) := rfl

theorem seg_post (c : Dev nD) : (seg W₀).post c = iprop(three c (W₀ c main_v13) (W₀ c main_v14) (found W₀ c) ∗ idle c) := rfl

/-- The region's step with its arrays named. -/
theorem region_wp [∀ e, Nonempty (Elt F e)] (c : Dev nD) (Q : PUnit.{1} → sProp 𝕄) :
    iprop((iprop(boundary (SparseCore.T c) ∗ three c (W₀ c main_v13) (W₀ c main_v14) (found W₀ c) ∗ idle c) -∗ Q ⟨⟩)
        ∗ boundary (SparseCore.T c) ∗ (three c (W₀ c main_v13) (W₀ c main_v14) (W₀ c main_v15) ∗ idle c)
        ∗ levAts (K (F := F)).L (K (F := F)).lev ∗ ghost c)
      ⊢ wp frame (wpE (D (F := F)) 𝒱 (SparseCore.T c) none) Set.univ (.op (.customCall (Pipeline.entry 0) ()) fun _ => .ret ⟨⟩) Q := by
  rw [← seg_pre, ← seg_post]
  iintro ⟨Hk, Hb, Hp, Hl, Hg⟩
  iapply (region_step W₀ c Q)
  isplitl [Hk]
  · iintro H
    rw [wp_ret]; imodintro
    iapply Hk; iexact H
  isplitl [Hb]; · iexact Hb
  isplitl [Hp]; · iexact Hp
  isplitl [Hl]; · iexact Hl
  unfold ghost
  iexact Hg

end Region

end Cert.Proof

end
-- ==== Proof.Run.lean ====
module

public import proofs.«01_k».proof.Proof.Region
public import Idealize.ShloMosaic.Lib.StableHlo.Run

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Idealize.ShloMosaic.StableHlo (held seq seqK)

/-! The whole program: its host operations in three lines (before the SparseCore call, between the two calls, after
    the region), what every array holds after each, and the run of `main`. -/

/-- The neighbours of the rows of the region, then those of the rows of the SparseCore call. -/
def joined : (⟨S237568, .i32⟩ : BufTy).Contents (Elt F) → (⟨S24576, .i32⟩ : BufTy).Contents (Elt F) → (⟨S262144, .i32⟩ : BufTy).Contents (Elt F) :=
  fun a b => concatenate S262144 0 [⟨S237568, a⟩, ⟨S24576, b⟩] concatenates_S237568_S24576_S262144_d0
/-- The sources above the neighbours. -/
def stacked : (⟨S1x262144, .i32⟩ : BufTy).Contents (Elt F) → (⟨S1x262144, .i32⟩ : BufTy).Contents (Elt F) → (⟨S2x262144, .i32⟩ : BufTy).Contents (Elt F) :=
  fun a b => concatenate S2x262144 0 [⟨S1x262144, a⟩, ⟨S1x262144, b⟩] concatenates_S1x262144_S1x262144_S2x262144_d0

/-- The host operations before the SparseCore call. -/
abbrev opsA : List (HloOp τ sig (Elt F)) :=
  [ StableHlo.unary main_arg0 main_v0 ((extractStridedSlice S1x2048x3 ![7, 0, 0] · slices_S8x2048x3_S1x2048x3_7_0_0) : (⟨S8x2048x3, .f32⟩ : BufTy).Contents (Elt F) → (⟨S1x2048x3, .f32⟩ : BufTy).Contents (Elt F)),
    StableHlo.reshape main_v0 main_v1 (rfl : (.f32 : EltTy) = .f32) shapeCasts_S1x2048x3_S2048x3,
    StableHlo.unary main_v1 main_v2 ((truncf .bf16 · bitsLt_bf16_f32) : (⟨S2048x3, .f32⟩ : BufTy).Contents (Elt F) → (⟨S2048x3, .bf16⟩ : BufTy).Contents (Elt F)),
    StableHlo.unary main_v2 main_v3 ((extf .f32 · bitsLt_bf16_f32) : (⟨S2048x3, .bf16⟩ : BufTy).Contents (Elt F) → (⟨S2048x3, .f32⟩ : BufTy).Contents (Elt F)),
    StableHlo.binary main_v1 main_v1 main_v4 (mulf : (⟨S2048x3, .f32⟩ : BufTy).Contents (Elt F) → (⟨S2048x3, .f32⟩ : BufTy).Contents (Elt F) → (⟨S2048x3, .f32⟩ : BufTy).Contents (Elt F)),
    StableHlo.nullary main_cst (constant S_ .f32 0x00000000#32),
    StableHlo.binary main_v4 main_cst main_v5 ((fun x v => Host.reduceAdd x v reducesTo_S2048x3_S2048_d1 h_S_) : (⟨S2048x3, .f32⟩ : BufTy).Contents (Elt F) → (⟨S_, .f32⟩ : BufTy).Contents (Elt F) → (⟨S2048, .f32⟩ : BufTy).Contents (Elt F)),
    StableHlo.unary main_v3 main_v6 ((extractStridedSlice S2048x1 ![0, 0] · slices_S2048x3_S2048x1_0_0) : (⟨S2048x3, .f32⟩ : BufTy).Contents (Elt F) → (⟨S2048x1, .f32⟩ : BufTy).Contents (Elt F)),
    StableHlo.reshape main_v6 main_v7 (rfl : (.f32 : EltTy) = .f32) shapeCasts_S2048x1_S2048,
    StableHlo.unary main_v3 main_v8 ((extractStridedSlice S2048x1 ![0, 1] · slices_S2048x3_S2048x1_0_1) : (⟨S2048x3, .f32⟩ : BufTy).Contents (Elt F) → (⟨S2048x1, .f32⟩ : BufTy).Contents (Elt F)),
    StableHlo.reshape main_v8 main_v9 (rfl : (.f32 : EltTy) = .f32) shapeCasts_S2048x1_S2048,
    StableHlo.unary main_v3 main_v10 ((extractStridedSlice S2048x1 ![0, 2] · slices_S2048x3_S2048x1_0_2) : (⟨S2048x3, .f32⟩ : BufTy).Contents (Elt F) → (⟨S2048x1, .f32⟩ : BufTy).Contents (Elt F)),
    StableHlo.reshape main_v10 main_v11 (rfl : (.f32 : EltTy) = .f32) shapeCasts_S2048x1_S2048 ]

/-- The host operations between the SparseCore call and the region. -/
abbrev opsB : List (HloOp τ sig (Elt F)) :=
  [ StableHlo.nullary main_c (constantI S_ 32 0#32),
    StableHlo.TRef.unary (.of main_c : StableHlo.TRef sig ⟨S_, .i32⟩) (.of main_call0_v0) (sitofp .f32),
    StableHlo.TRef.binary (.of main_arg0 : StableHlo.TRef sig ⟨S8x2048x3, .f32⟩) (.of main_call0_v0 : StableHlo.TRef sig ⟨S_, .f32⟩) (.of main_v13) (fun x v => pad S8x2048x8 ![0, 0, 0] ![0, 0, 5] ![0, 0, 0] x v pads_S8x2048x3_S8x2048x8_000_000_050 h_S_),
    StableHlo.unary main_v13 main_v14 ((transpose S8x8x2048 [0, 2, 1] · transposes_S8x2048x8_S8x8x2048_0_2_1) : (⟨S8x2048x8, .f32⟩ : BufTy).Contents (Elt F) → (⟨S8x8x2048, .f32⟩ : BufTy).Contents (Elt F)) ]

/-- The host operations after the region. -/
abbrev opsC : List (HloOp τ sig (Elt F)) :=
  [ StableHlo.reshape main_v15 main_v16 (rfl : (.i32 : EltTy) = .i32) shapeCasts_S8x2048x16_S262144,
    StableHlo.unary main_v16 main_v17 ((extractStridedSlice S237568 ![0] · slices_S262144_S237568_0) : (⟨S262144, .i32⟩ : BufTy).Contents (Elt F) → (⟨S237568, .i32⟩ : BufTy).Contents (Elt F)),
    StableHlo.binary main_v17 main_v12 main_v18 (joined : (⟨S237568, .i32⟩ : BufTy).Contents (Elt F) → (⟨S24576, .i32⟩ : BufTy).Contents (Elt F) → (⟨S262144, .i32⟩ : BufTy).Contents (Elt F)),
    StableHlo.nullary main_v19 (iotaInDim S16384 32 0),
    StableHlo.reshape main_v19 main_v20 (rfl : (.i32 : EltTy) = .i32) shapeCasts_S16384_S16384x1,
    StableHlo.unary main_v20 main_v21 (broadcastInDim S16384x16 ![0, 1] bcast_S16384x1_S16384x16_0_1 : (⟨S16384x1, .i32⟩ : BufTy).Contents (Elt F) → (⟨S16384x16, .i32⟩ : BufTy).Contents (Elt F)),
    StableHlo.reshape main_v21 main_v22 (rfl : (.i32 : EltTy) = .i32) shapeCasts_S16384x16_S262144,
    StableHlo.unary main_v22 main_v23 (broadcastInDim S1x262144 ![1] bcast_S262144_S1x262144_1 : (⟨S262144, .i32⟩ : BufTy).Contents (Elt F) → (⟨S1x262144, .i32⟩ : BufTy).Contents (Elt F)),
    StableHlo.unary main_v18 main_v24 (broadcastInDim S1x262144 ![1] bcast_S262144_S1x262144_1 : (⟨S262144, .i32⟩ : BufTy).Contents (Elt F) → (⟨S1x262144, .i32⟩ : BufTy).Contents (Elt F)),
    StableHlo.binary main_v23 main_v24 main_v25 (stacked : (⟨S1x262144, .i32⟩ : BufTy).Contents (Elt F) → (⟨S1x262144, .i32⟩ : BufTy).Contents (Elt F) → (⟨S2x262144, .i32⟩ : BufTy).Contents (Elt F)) ]

theorem main_eq (d : Dev nD) :
    main (F := F) d = seqK opsA ((K (F := F)).run d 0 >>= fun _ =>
      seqK opsB ((Prog.lift (.customCall (SparseCore.inner (Pipeline.entry 0)) ())) >>= fun _ => seq opsC)) := rfl

/-! The arrays, as a set of references. -/

def emb : Ref sig .tc ↪ DevRef τ sig := ⟨Proc.devRef .tc, Proc.devRef_injective _⟩
abbrev refsOf (R : Finset (Ref sig .tc)) : Finset (DevRef τ sig) := R.map emb

theorem sub1 {R : Finset (Ref sig .tc)} {a : Ref sig .tc} (ha : a ∈ R) : ({Proc.devRef .tc a} : Finset (DevRef τ sig)) ⊆ refsOf R :=
  Finset.singleton_subset_iff.mpr (Finset.mem_map.mpr ⟨a, ha, rfl⟩)
theorem sub2 {R : Finset (Ref sig .tc)} {a b : Ref sig .tc} (ha : a ∈ R) (hb : b ∈ R) :
    ({Proc.devRef .tc a, Proc.devRef .tc b} : Finset (DevRef τ sig)) ⊆ refsOf R :=
  Finset.insert_subset (Finset.mem_map.mpr ⟨a, ha, rfl⟩) (sub1 hb)
theorem sub3 {R : Finset (Ref sig .tc)} {a b c : Ref sig .tc} (ha : a ∈ R) (hb : b ∈ R) (hc : c ∈ R) :
    ({Proc.devRef .tc a, Proc.devRef .tc b, Proc.devRef .tc c} : Finset (DevRef τ sig)) ⊆ refsOf R :=
  Finset.insert_subset (Finset.mem_map.mpr ⟨a, ha, rfl⟩) (sub2 hb hc)

/-- Every array of the program. -/
abbrev allR : Finset (Ref sig .tc) := Finset.univ.filter fun b => ¬ b.isScoped
/-- All but the arrays of the SparseCore call. -/
abbrev restR : Finset (Ref sig .tc) := allR \ {main_v7, main_v9, main_v11, main_v5, main_v12}
/-- All but the SparseCore call's operands, which it keeps. -/
abbrev keptR : Finset (Ref sig .tc) := insert main_v12 restR
/-- Those but the arrays of the region. -/
abbrev outR : Finset (Ref sig .tc) := keptR \ {main_v13, main_v14, main_v15}
/-- Those but the argument and the result. -/
abbrev lastR : Finset (Ref sig .tc) := keptR \ {main_arg0, main_v25}

theorem allR_eq : allR = insert main_v7 (insert main_v9 (insert main_v11 (insert main_v5 (insert main_v12 restR)))) := by decide
theorem keptR_eq : keptR = insert main_v13 (insert main_v14 (insert main_v15 outR)) := by decide
theorem keptR_last : keptR = insert main_arg0 (insert main_v25 lastR) := by decide

theorem opsA_sub : (opsA : List (HloOp τ sig (Elt F))).Forall fun op => op.bufs ⊆ refsOf allR :=
  ⟨sub2 (by decide) (by decide),
    sub2 (by decide) (by decide),
    sub2 (by decide) (by decide),
    sub2 (by decide) (by decide),
    sub3 (by decide) (by decide) (by decide),
    sub1 (by decide),
    sub3 (by decide) (by decide) (by decide),
    sub2 (by decide) (by decide),
    sub2 (by decide) (by decide),
    sub2 (by decide) (by decide),
    sub2 (by decide) (by decide),
    sub2 (by decide) (by decide),
    sub2 (by decide) (by decide)⟩

theorem opsB_sub : (opsB : List (HloOp τ sig (Elt F))).Forall fun op => op.bufs ⊆ refsOf keptR :=
  ⟨sub1 (by decide),
    sub2 (by decide) (by decide),
    sub3 (by decide) (by decide) (by decide),
    sub2 (by decide) (by decide)⟩

theorem opsC_sub : (opsC : List (HloOp τ sig (Elt F))).Forall fun op => op.bufs ⊆ refsOf keptR :=
  ⟨sub2 (by decide) (by decide),
    sub2 (by decide) (by decide),
    sub3 (by decide) (by decide) (by decide),
    sub1 (by decide),
    sub2 (by decide) (by decide),
    sub2 (by decide) (by decide),
    sub2 (by decide) (by decide),
    sub2 (by decide) (by decide),
    sub2 (by decide) (by decide),
    sub3 (by decide) (by decide) (by decide)⟩

theorem opsA_fresh : ∀ op ∈ (opsA : List (HloOp τ sig (Elt F))), op.fresh = ∅ := by
  intro op h; fin_cases h <;> rfl
theorem opsB_fresh : ∀ op ∈ (opsB : List (HloOp τ sig (Elt F))), op.fresh = ∅ := by
  intro op h; fin_cases h <;> rfl
theorem opsC_fresh : ∀ op ∈ (opsC : List (HloOp τ sig (Elt F))), op.fresh = ∅ := by
  intro op h; fin_cases h <;> rfl

omit [FloatOps F] in
theorem held_refs (d : Dev nD) (R : Finset (Ref sig .tc)) (V : Valuation τ sig (Elt F)) :
    (held (SparseCore.T d) (refsOf R) V : sProp 𝕄)
      = bigSep R fun b => ((SparseCore.T d : Thread nD τ).loc b) ↦{fullShare} V (Proc.devRef .tc b) := by
  unfold held
  rw [BI.bigSep_map]
  rfl

omit [FloatOps F] in
theorem held_insert (d : Dev nD) {R : Finset (Ref sig .tc)} {a : Ref sig .tc} (ha : a ∉ R) (V : Valuation τ sig (Elt F)) :
    (held (SparseCore.T d) (refsOf (insert a R)) V : sProp 𝕄)
      = iprop((((SparseCore.T d : Thread nD τ).loc a) ↦{fullShare} V (Proc.devRef .tc a)) ∗ held (SparseCore.T d) (refsOf R) V) := by
  rw [held_refs, held_refs]; exact SparseCore.bigSep_insert' ha

omit [FloatOps F] in
theorem held_all (d : Dev nD) (V : Valuation τ sig (Elt F)) :
    (unscopedBufs d (fun b => V (Proc.devRef .tc b)) : sProp 𝕄) = held (SparseCore.T d) (refsOf allR) V := by
  rw [held_refs]; rfl

omit [FloatOps F] in
/-- What one reference holds after another is given new contents. -/
theorem put_ne {V : Valuation τ sig (Elt F)} {a : Ref sig .tc} (v : (Proc.devRef (τ := τ) .tc a).ty.Contents (Elt F)) {b : Ref sig .tc} (h : b ≠ a) :
    Function.update V (Proc.devRef .tc a) v (Proc.devRef .tc b) = V (Proc.devRef .tc b) :=
  Function.update_of_ne (StableHlo.devRef_ne_of_ne h) _ _

omit [FloatOps F] in
theorem held_put (d : Dev nD) {R : Finset (Ref sig .tc)} {a : Ref sig .tc} (ha : a ∉ R) (V : Valuation τ sig (Elt F))
    (v : (Proc.devRef (τ := τ) .tc a).ty.Contents (Elt F)) :
    (held (SparseCore.T d) (refsOf R) (Function.update V (Proc.devRef .tc a) v) : sProp 𝕄) = held (SparseCore.T d) (refsOf R) V := by
  rw [held_refs, held_refs]
  exact bigSep_congr fun b hb => by rw [put_ne v (fun e => ha (e ▸ hb))]

section Main

variable (m : (ℓ : Loc nD τ sig) → Buf (Elt F) ℓ) (ρ : Dev nD → PrngReg)

/-- The arrays before the SparseCore call. -/
def valA (d : Dev nD) : Valuation τ sig (Elt F) := StableHlo.after opsA fun b => m (d, b)
/-- What the SparseCore call reads. -/
def ins : Ins F where
  X d := valA m d (Proc.devRef .tc main_v7)
  Y d := valA m d (Proc.devRef .tc main_v9)
  Z d := valA m d (Proc.devRef .tc main_v11)
  Q d := valA m d (Proc.devRef .tc main_v5)
/-- What it leaves. -/
def scVal (d : Dev nD) : Buf (Elt F) (oLoc d) := scOut ((ins m).X d) ((ins m).Y d) ((ins m).Z d) ((ins m).Q d)
/-- The arrays before the region. -/
def valB (d : Dev nD) : Valuation τ sig (Elt F) := StableHlo.after opsB (Function.update (valA m d) (Proc.devRef .tc main_v12) (scVal m d))
def refB (d : Dev nD) (b : Ref sig .tc) : Buf (Elt F) ((d.tc : Thread nD τ).loc b) := valB m d (Proc.devRef .tc b)
/-- What the region leaves. -/
def tcVal (d : Dev nD) : Buf (Elt F) (rLoc d) := found (refB m) d
/-- The arrays at the end. -/
def valC (d : Dev nD) : Valuation τ sig (Elt F) := StableHlo.after opsC (Function.update (valB m d) (Proc.devRef .tc main_v15) (tcVal m d))

abbrev aLoc (d : Dev nD) : Loc nD τ sig := (SparseCore.T d).loc main_arg0
abbrev eLoc (d : Dev nD) : Loc nD τ sig := (SparseCore.T d).loc main_v25
/-- The result of the program on device `d`. -/
def outVal (d : Dev nD) : Buf (Elt F) (eLoc d) := valC m d (Proc.devRef .tc main_v25)

/-! The launch's ghost state. -/

def u₀ : UU :=
  (initOf (K (F := F)).hsCells (K (F := F)).hsToks,
    (initOf (Pipeline.cells (nD := nD) (τ := τ) (Pipeline.pin (pcfgs (F := F)) adm) pinj) (Pipeline.launchToks (Pipeline.pin (pcfgs (F := F)) adm) pinj), 1))

theorem own_right (a : UP) (b : Counters) :
    (BI.own ((embR : Emb (UP × Counters) 𝕄) (a, b)) : sProp 𝕄) ⊢ BI.own ((EP : Emb UP 𝕄) a) := by
  iintro H
  ihave H' := (own_pair_emb (embR : Emb (UP × Counters) 𝕄) a b) $$ H
  icases H' with ⟨H, -⟩
  iexact H

theorem ghost_deal :
    (iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) : sProp 𝕄)
      ⊢ bigSep Finset.univ fun c : Dev nD => (ghost (F := F) c : sProp 𝕄) := by
  unfold ghost
  rw [bigSep_sep' (Finset.univ : Finset (Dev nD))]
  simp only [bigSep_univ_of_subsingleton (0 : Fin 1)]
  iintro H; iexact H

theorem hu₀ : (ownU (u₀ (F := F)) : sProp 𝕄)
    ⊢ |={Set.univ}=> iprop(BI.own (EH (initOf (K (F := F)).hsCells (K (F := F)).hsToks)) ∗ (bigSep Finset.univ fun d : Dev nD => (ghost (F := F) d : sProp 𝕄))
        ∗ bigSep Finset.univ fun thr : Thread nD τ => bigSep Finset.univ fun q : Fin 1 => (P (ins m)).x q thr) := by
  unfold u₀
  iintro Hu
  ihave H := (ownU_pair _ _) $$ Hu
  icases H with ⟨HH, HR⟩
  ihave HR := (own_right _ _) $$ HR
  imod (Pipeline.fund_ghost (Pipeline.pin (pcfgs (F := F)) adm) EP pinj) $$ HR with HG
  imodintro
  isplitl [HH]; · iexact HH
  isplitl [HG]; · iapply ghost_deal; iexact HG
  rw [show (bigSep Finset.univ fun thr : Thread nD τ => bigSep Finset.univ fun q : Fin 1 => (P (ins m)).x q thr : sProp 𝕄) = iprop(emp) from
    (bigSep_congr fun _ _ => BI.bigSep_emp_const _).trans (BI.bigSep_emp_const _)]
  iempintro

/-! `main`. -/

/-- What `main` leaves: the argument as it was and the result. -/
def FIN (d : Dev nD) : sProp 𝕄 := iprop((aLoc d ↦{fullShare} m (aLoc d)) ∗ (eLoc d ↦{fullShare} outVal m d))

theorem opsA_writes : (opsA : List (HloOp τ sig (Elt F))).Forall fun op => op.writes ⊆ (([main_v0, main_v1, main_v2, main_v3, main_v4, main_cst, main_v5, main_v6, main_v7, main_v8, main_v9, main_v10, main_v11] : List (Ref sig .tc)).map (Proc.devRef (τ := τ) .tc)).toFinset :=
  StableHlo.forall_writes_sub_of_map rfl
theorem opsB_writes : (opsB : List (HloOp τ sig (Elt F))).Forall fun op => op.writes ⊆ (([main_c, main_call0_v0, main_v13, main_v14] : List (Ref sig .tc)).map (Proc.devRef (τ := τ) .tc)).toFinset :=
  StableHlo.forall_writes_sub_of_map rfl
theorem opsC_writes : (opsC : List (HloOp τ sig (Elt F))).Forall fun op => op.writes ⊆ (([main_v16, main_v17, main_v18, main_v19, main_v20, main_v21, main_v22, main_v23, main_v24, main_v25] : List (Ref sig .tc)).map (Proc.devRef (τ := τ) .tc)).toFinset :=
  StableHlo.forall_writes_sub_of_map rfl

theorem valC_arg (d : Dev nD) : valC m d (Proc.devRef .tc main_arg0) = m (aLoc d) := by
  unfold valC valB valA
  rw [StableHlo.after_of_writes_sub opsC _ opsC_writes (by decide), put_ne _ (by decide), StableHlo.after_of_writes_sub opsB _ opsB_writes (by decide),
    put_ne _ (by decide), StableHlo.after_of_writes_sub opsA _ opsA_writes (by decide)]

/-- The arrays of the SparseCore call, and the others. -/
theorem take_call (d : Dev nD) :
    (held (SparseCore.T d) (refsOf allR) (valA m d) : sProp 𝕄)
      = iprop((xLoc d ↦{fullShare} (ins m).X d) ∗ (yLoc d ↦{fullShare} (ins m).Y d) ∗ (zLoc d ↦{fullShare} (ins m).Z d) ∗ (qLoc d ↦{fullShare} (ins m).Q d)
          ∗ (oLoc d ↦{fullShare} valA m d (Proc.devRef .tc main_v12)) ∗ held (SparseCore.T d) (refsOf restR) (valA m d)) := by
  rw [allR_eq, held_insert d (by decide), held_insert d (by decide), held_insert d (by decide), held_insert d (by decide), held_insert d (by decide)]
  rfl

theorem put_call (d : Dev nD) :
    (iprop((oLoc d ↦{fullShare} scVal m d) ∗ held (SparseCore.T d) (refsOf restR) (valA m d)) : sProp 𝕄)
      = held (SparseCore.T d) (refsOf keptR) (Function.update (valA m d) (Proc.devRef .tc main_v12) (scVal m d)) := by
  rw [held_insert d (by decide), held_put d (by decide), Function.update_self]

theorem take_region (d : Dev nD) :
    (held (SparseCore.T d) (refsOf keptR) (valB m d) : sProp 𝕄)
      = iprop((uLoc d ↦{fullShare} refB m d main_v13) ∗ (wLoc d ↦{fullShare} refB m d main_v14) ∗ (rLoc d ↦{fullShare} refB m d main_v15) ∗ held (SparseCore.T d) (refsOf outR) (valB m d)) := by
  rw [keptR_eq, held_insert d (by decide), held_insert d (by decide), held_insert d (by decide)]
  rfl

theorem put_region (d : Dev nD) :
    (iprop((uLoc d ↦{fullShare} refB m d main_v13) ∗ (wLoc d ↦{fullShare} refB m d main_v14) ∗ (rLoc d ↦{fullShare} tcVal m d) ∗ held (SparseCore.T d) (refsOf outR) (valB m d)) : sProp 𝕄)
      = held (SparseCore.T d) (refsOf keptR) (Function.update (valB m d) (Proc.devRef .tc main_v15) (tcVal m d)) := by
  rw [keptR_eq, held_insert d (by decide), held_insert d (by decide), held_insert d (by decide), held_put d (by decide), Function.update_self,
    put_ne _ (by decide), put_ne _ (by decide)]
  rfl

theorem take_last (d : Dev nD) :
    (held (SparseCore.T d) (refsOf keptR) (valC m d) : sProp 𝕄) = iprop((aLoc d ↦{fullShare} m (aLoc d)) ∗ (eLoc d ↦{fullShare} outVal m d) ∗ held (SparseCore.T d) (refsOf lastR) (valC m d)) := by
  rw [keptR_last, held_insert d (by decide), held_insert d (by decide), valC_arg]
  rfl

/-- The TensorCore's state after the last call, opened at what it owes. -/
theorem open_idle (d : Dev nD) :
    ∃ R : sProp 𝕄, ((K (F := F)).tcSt EH d 1 : sProp 𝕄) = iprop(idle d ∗ R) := by
  unfold SparseCore.Cfg.tcSt
  rw [(K (F := F)).Otc_end d (le_refl 1)]
  exact ⟨_, rfl⟩

omit m ρ in
/-- The region's call, in the body table of the SparseCores' launch. -/
theorem lift_region (d : Dev nD) (Q : PUnit.{1} → sProp 𝕄) :
    wp frame (wpE (D (F := F)) 𝒱 (SparseCore.T d) none) Set.univ (.op (.customCall (Pipeline.entry 0) ()) fun _ => .ret ⟨⟩) Q
      ⊢ wp frame (wpE ((K (F := F)).defs (D (F := F))) 𝒱 (SparseCore.T d) none) Set.univ (Prog.lift (.customCall (SparseCore.inner (Pipeline.entry 0)) ())) Q := by
  have h := (K (F := F)).wp_liftProg (D (F := F)) 𝒱 (SparseCore.T d) Set.univ none (.op (.customCall (Pipeline.entry 0) ()) fun _ => .ret ⟨⟩) Q
  exact h

theorem hmain [∀ e, Nonempty (Elt F e)] (κ : GSem nD τ sig → ℕ) (d : Dev nD) :
    iprop((K (F := F)).ctx EH (P (ins m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := open_idle (F := F) d
  unfold SparseCore.Cfg.tcRes SparseCore.Cfg.tcEnd
  rw [show (unscopedBufs d (fun b => m ((SparseCore.T d).loc b)) : sProp 𝕄) = held (SparseCore.T d) (refsOf allR) (fun b => m (d, b)) from held_all d (fun b => m (d, b)),
    main_eq, ← StableHlo.seq_bind_seqK]
  iintro ⟨#Hctx, Hst, ⟨Hb, Hheld, Hts, -⟩, HG⟩
  ihave #Hlev := ((K (F := F)).ctx_levAts κ) $$ Hctx
  iapply (StableHlo.wp_seq 𝒱 none Set.univ d (refsOf allR) _ opsA (List.forall_iff_forall_mem.mp opsA_sub) opsA_fresh (fun b => m (d, b))) $$ [Hb Hheld]
  · isplitl [Hb]; · iexact Hb
    iexact Hheld
  iintro ⟨Hb, Hheld⟩
  ihave Hheld := (Entails.of_eq (show (held (d.tc : Thread nD τ) (refsOf allR) (StableHlo.after opsA fun b => m (d, b)) : sProp 𝕄) = _ from take_call m d)) $$ Hheld
  icases Hheld with ⟨HX, HY, HZ, HQ, HO, Hheld⟩
  rw [wp_bind]
  iapply ((K (F := F)).wp_run (D (F := F)) 𝒱 (EH := EH) (P := P (ins m)) κ d 0)
  isplitr; · iexact Hctx
  isplitl [Hst]; · iexact Hst
  isplitl [HX HY HZ HQ HO]
  · iapply (st_intro (ins m) d _)
    isplitl [HX]; · iexact HX
    isplitl [HY]; · iexact HY
    isplitl [HZ]; · iexact HZ
    isplitl [HQ]; · iexact HQ
    iexact HO
  iintro ⟨Hst, Hdn⟩
  ihave HO := (Entails.of_eq (dn_elim (ins m) d)) $$ Hdn
  ihave Hheld := (Entails.of_eq (put_call m d)) $$ [HO Hheld]
  · isplitl [HO]; · iexact HO
    iexact Hheld
  rw [← StableHlo.seq_bind_seqK]
  iapply (StableHlo.wp_seq 𝒱 none Set.univ d (refsOf keptR) _ opsB (List.forall_iff_forall_mem.mp opsB_sub) opsB_fresh _) $$ [Hb Hheld]
  · isplitl [Hb]; · iexact Hb
    iexact Hheld
  iintro ⟨Hb, Hheld⟩
  ihave Hheld := (Entails.of_eq (show (held (d.tc : Thread nD τ) (refsOf keptR) (StableHlo.after opsB (Function.update (valA m d) (Proc.devRef .tc main_v12) (scVal m d))) : sProp 𝕄) = _ from take_region m d)) $$ Hheld
  icases Hheld with ⟨H1, H2, H3, Hheld⟩
  ihave Hst := (Entails.of_eq (show ((K (F := F)).tcSt EH d ((0 : Fin 1).val + 1) : sProp 𝕄) = _ from hR)) $$ Hst
  icases Hst with ⟨HI, HR⟩
  rw [wp_bind]
  iapply (lift_region d _)
  iapply (region_wp (refB m) d _)
  isplitr [Hb H1 H2 H3 HI HG]
  · iintro ⟨Hb, H3, HI⟩
    unfold three
    icases H3 with ⟨H1, H2, H3⟩
    ihave Hheld := (Entails.of_eq (put_region m d)) $$ [H1 H2 H3 Hheld]
    · isplitl [H1]; · iexact H1
      isplitl [H2]; · iexact H2
      isplitl [H3]; · iexact H3
      iexact Hheld
    rw [← bind_pure (seq opsC)]
    iapply (StableHlo.wp_seq 𝒱 none Set.univ d (refsOf keptR) _ opsC (List.forall_iff_forall_mem.mp opsC_sub) opsC_fresh _) $$ [Hb Hheld]
    · isplitl [Hb]; · iexact Hb
      iexact Hheld
    iintro ⟨Hb, Hheld⟩
    ihave Hheld := (Entails.of_eq (show (held (d.tc : Thread nD τ) (refsOf keptR) (StableHlo.after opsC (Function.update (valB m d) (Proc.devRef .tc main_v15) (tcVal m d))) : sProp 𝕄) = _ from take_last m d)) $$ Hheld
    icases Hheld with ⟨Ha, He, -⟩
    rw [wp_pure]; imodintro
    isplitl [HI HR]
    · rw [hR]
      isplitl [HI]; · iexact HI
      iexact HR
    isplitl [Ha He]
    · unfold FIN
      isplitl [Ha]; · iexact Ha
      iexact He
    isplitl [Hb]; · iexact Hb
    iexact Hts
  isplitl [Hb]; · iexact Hb
  isplitl [H1 H2 H3 HI]
  · isplitl [H1 H2 H3]
    · unfold three
      isplitl [H1]; · iexact H1
      isplitl [H2]; · iexact H2
      iexact H3
    iexact HI
  isplitr; · iexact Hlev
  iexact HG

/-! The run. -/

def fq (d : Dev nD) (s' : Phys nD τ sig (Elt F)) : Prop := s'.mem.mem (aLoc d) = m (aLoc d) ∧ s'.mem.mem (eLoc d) = outVal m d

theorem hfin (d : Dev nD) (s' : Phys nD τ sig (Elt F)) : iprop(FIN m d ∗ SI s') ⊢ (⌜fq m d s'⌝ : sProp 𝕄) := by
  unfold FIN
  iintro ⟨⟨Ha, He⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := eLoc d) (I := Finset.univ) (q := fullShare) (f := outVal m d)) $$ [HSI He]
  · isplitl [HSI] <;> iassumption
  icases H with %h2
  ipureintro; exact ⟨funext fun i => h1 i (Finset.mem_univ i), funext fun i => h2 i (Finset.mem_univ i)⟩

/-- The run of the program: the argument as it was, the result at `outVal`, every counter at zero. -/
theorem run_main [∀ e, Nonempty (Elt F e)] :
    θ_run (Cert.KernelIdeal.defs (F := F)) (Cert.KernelIdeal.threads (F := F)) ⟨m, fun _ => 0, ρ⟩
      (fun r => (∀ c : Dev nD, r.2.mem (aLoc c) = m (aLoc c) ∧ r.2.mem (eLoc c) = outVal m c) ∧ r.2.sem = fun _ => 0) :=
  SparseCore.Cfg.θ_run_sc_quiescent (K := K (F := F)) (D := D (F := F)) (𝒱 := 𝒱) (EH := EH) (P := P (ins m)) (A := ∅) scFacts v₀
    (fun q hq => match q with | 0 => nomatch hq)
    (fun q _ => match q with | 0 => tileObl (ins m))
    (fun q _ => match q with | 0 => SparseCore.Cfg.VecSplit.of_plain (vecSplit (ins m)))
    m ρ main (fun d => ghost d) (FIN m) (u₀ (F := F)) (sep_elim_left.trans (hu₀ m)) (hmain m ρ) (fq m) (hfin m) _ (fun _ h hz => ⟨h, hz⟩)

end Main

end Cert.Proof

end
-- ==== Proof.Frames.lean ====
module

public import proofs.«01_k».proof.Proof.Run
public import proofs.«01_k».proof.Proof.Gen.Kernel
public import proofs.«01_k».proof.Proof.Gen.ReferenceIdeal.Run

@[expose] public section

noncomputable section

/-! The frames: each program runs to its end, its argument as it was, every counter at zero. The kernel's and its
    idealization's are one run, at the machine's floats and at the extended reals. -/

namespace Cert.Proof

open Idealize.ShloMosaic Idealize.SL.Sem

/-- The SparseCore kernel printed twice is one program. -/
theorem same_sc : @Cert.Kernel.cc0_sc_kernel Bits _ Cert.Kernel.Gen.facts = @Cert.KernelIdeal.cc0_sc_kernel Bits _ Cert.KernelIdeal.Gen.facts := rfl

/-- The TensorCore kernel printed twice is one program. -/
theorem same_tc : @Cert.Kernel.cc1__knn_block Bits _ Cert.Kernel.Gen.facts = @Cert.KernelIdeal.cc1__knn_block Bits _ Cert.KernelIdeal.Gen.facts := rfl

/-- The two body tables are one. -/
theorem same_bodies : Cert.Kernel.defs₀ (F := Bits) = Cert.KernelIdeal.defs₀ (F := Bits) := by
  funext p ℓ a
  match p, ℓ, a with
  | .scVector c s, 0, a =>
    rfl
  | .tc, 0, a => rfl
  | .tc, 1, (t, s) =>
    rfl
  | .scScalar c, 0, a => rfl
  | .scScalar c, 1, a => rfl
  | .scVector c s, 1, a => rfl

theorem same_defs : Cert.Kernel.defs (F := Bits) = Cert.KernelIdeal.defs (F := Bits) := by
  unfold Cert.Kernel.defs Cert.KernelIdeal.defs
  rw [same_bodies]; rfl

/-- The kernel's frame. -/
theorem frame_kernel : Cert.quiescent_Kernel := fun m ρ _ => by
  rw [same_defs]
  have h : θ_run (Cert.KernelIdeal.defs (F := Bits)) (Cert.KernelIdeal.threads (F := Bits)) ⟨m, fun _ => 0, ρ⟩ (fun r => (∀ c : Dev Cert.KernelIdeal.nD,
      r.2.mem (aLoc c) = m (aLoc c)) ∧ r.2.sem = fun _ => 0) :=
    (θ_run (Cert.KernelIdeal.defs (F := Bits)) _ _).mono (fun _ h => ⟨fun c => (h.1 c).1, h.2⟩) (run_main (F := Bits) m ρ)
  exact h

/-- The idealized kernel's frame. -/
theorem frame_ideal : Cert.quiescent_KernelIdeal := fun m ρ _ =>
  (θ_run (Cert.KernelIdeal.defs (F := Ideal)) _ _).mono (fun _ h => ⟨fun c => (h.1 c).1, h.2⟩) (run_main (F := Ideal) m ρ)

/-- The reference's run leaves its argument, and no semaphore counter is ever touched. -/
theorem frame_reference : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)

end Cert.Proof

end
-- ==== Proof.Near.lean ====
module

public import Idealize.ShloMosaic.Lib.SortNet.TopList
public import Idealize.ShloMosaic.Lib.SortFacts
public import Mathlib.Data.EReal.Basic
public import Mathlib.Data.Prod.Lex

@[expose] public section

noncomputable section

/-! The sixteen nearest of 2048 distances: the order, lesser distance first and the lower number among equals; what
    sixteen rounds of taking out the least find; and what a stable sort of the negated distances finds. -/

namespace Cert.Proof

open Idealize.ShloMosaic Idealize.ShloMosaic.SortNet

/-- A distance with a point's number, nearer pairs GREATER: the lesser distance, and among equals the lower number. -/
abbrev Key := (EReal ×ₗ ℤ)ᵒᵈ

/-- The pair of a distance and a number. -/
def key (d : EReal) (i : ℤ) : Key := OrderDual.toDual (toLex (d, i))

/-- The number in a pair. -/
def idx (k : Key) : ℤ := (ofLex (OrderDual.ofDual k)).2

theorem idx_key (d : EReal) (i : ℤ) : idx (key d i) = i := rfl

theorem key_le {d e : EReal} {i j : ℤ} : key d i ≤ key e j ↔ e < d ∨ e = d ∧ j ≤ i := by
  show toLex (e, j) ≤ toLex (d, i) ↔ _
  rw [Prod.Lex.le_iff]
  rfl

theorem key_lt {d e : EReal} {i j : ℤ} : key d i < key e j ↔ e < d ∨ e = d ∧ j < i := by
  show toLex (e, j) < toLex (d, i) ↔ _
  rw [Prod.Lex.lt_iff]
  rfl

/-- The distances of a row with their numbers. -/
def keys (d : Fin 2048 → EReal) : List Key := List.ofFn fun i => key (d i) i.val

/-- The sixteen nearest, nearest first. -/
def nbrs (d : Fin 2048 → EReal) : List Key := topList 16 (keys d)

theorem length_nbrs (d : Fin 2048 → EReal) : (nbrs d).length = 16 := by
  unfold nbrs keys
  rw [length_topList, List.length_ofFn]
  rfl

/-- The number of the `r`-th nearest. -/
def nbr (d : Fin 2048 → EReal) (r : Fin 16) : ℤ := idx ((nbrs d)[r.val]'(by rw [length_nbrs]; exact r.isLt))

/-- A list of sixteen pairs that is the sixteen nearest, read at a place. -/
theorem nbr_of_ofFn {d : Fin 2048 → EReal} {f : Fin 16 → Key} (h : List.ofFn f = nbrs d) (r : Fin 16) : idx (f r) = nbr d r := by
  unfold nbr
  simp only [← h, List.getElem_ofFn]

/-- A copy of pairs at infinity makes no difference to the sixteen nearest of finite distances. -/
theorem nbrs_of_floor (d : Fin 2048 → EReal) (hd : ∀ i, d i < ⊤) : topList 16 (List.replicate 16 (key ⊤ 0) ++ keys d) = nbrs d := by
  rw [topList_perm List.perm_append_comm, topList_append_of_le]
  · rfl
  · unfold keys; rw [List.length_ofFn]; decide
  · intro s hs a ha
    have ha := mem_of_mem_topList ha
    unfold keys at ha
    obtain ⟨i, rfl⟩ := (List.mem_ofFn' _ _).mp ha
    rw [(List.mem_replicate.mp hs).2]
    exact key_le.mpr (Or.inl (hd i))

/-- Sixteen different points in order, no other point nearer than one of them, are the sixteen nearest. -/
theorem nbrs_of_pick (d : Fin 2048 → EReal) (p : Fin 16 → Fin 2048) (hinj : Function.Injective p)
    (hdesc : ∀ i j, i < j → key (d (p j)) (p j).val ≤ key (d (p i)) (p i).val)
    (hrest : ∀ b, (∀ i, p i ≠ b) → ∀ i, key (d b) b.val ≤ key (d (p i)) (p i).val) :
    (List.ofFn fun i => key (d (p i)) (p i).val) = nbrs d := by
  have h := eq_topList (l := keys d) (t := List.ofFn fun i => key (d (p i)) (p i).val)
    (r := ((List.finRange 2048).filter fun b => ¬ ∃ i, p i = b).map fun b => key (d b) b.val) ?_ ?_ ?_
  · rw [h, List.length_ofFn]; rfl
  · have e1 : (List.ofFn fun i => key (d (p i)) (p i).val) = (List.ofFn p).map fun b : Fin 2048 => key (d b) b.val := by
      rw [List.map_ofFn]; rfl
    have e2 : keys d = (List.finRange 2048).map fun b : Fin 2048 => key (d b) b.val := by
      unfold keys; rw [List.ofFn_eq_map]
    rw [e1, e2, ← List.map_append]
    refine List.Perm.map _ ?_
    have h1 : ((List.ofFn p) ++ (List.finRange 2048).filter fun b => ¬ ∃ i, p i = b).Nodup := by
      refine List.nodup_append.mpr ⟨List.nodup_ofFn.mpr hinj, (List.nodup_finRange _).filter _, ?_⟩
      intro a ha b hb hab
      subst hab
      have := (List.mem_filter.mp hb).2
      obtain ⟨i, hi⟩ := (List.mem_ofFn' _ _).mp ha
      simp only [decide_eq_true_eq] at this
      exact this ⟨i, hi⟩
    refine (List.perm_ext_iff_of_nodup h1 (List.nodup_finRange _)).mpr fun b => ⟨fun _ => List.mem_finRange b, fun _ => ?_⟩
    by_cases hb : ∃ i, p i = b
    · exact List.mem_append_left _ ((List.mem_ofFn' _ _).mpr hb)
    · exact List.mem_append_right _ (List.mem_filter.mpr ⟨List.mem_finRange b, by simpa using hb⟩)
  · rw [List.pairwise_ofFn]
    exact fun i j hij => hdesc i j hij
  · intro a ha b hb
    obtain ⟨i, rfl⟩ := (List.mem_ofFn' _ _).mp ha
    obtain ⟨b', hb', rfl⟩ := List.mem_map.mp hb
    have := (List.mem_filter.mp hb').2
    simp only [decide_eq_true_eq] at this
    exact hrest b' (fun i hi => this ⟨i, hi⟩) i

/-- Rounds that each find the nearest point and raise its distance to infinity: the first sixteen find the sixteen nearest. -/
theorem nbrs_of_rounds (d : Fin 2048 → EReal) (hd : ∀ i, d i < ⊤) (m : ℕ → Fin 2048 → EReal) (p : ℕ → Fin 2048) (h0 : m 0 = d)
    (hs : ∀ n i, m (n + 1) i = if i = p n then ⊤ else m n i) (hp : ∀ n i, key (m n i) i.val ≤ key (m n (p n)) (p n).val) :
    (List.ofFn fun k : Fin 16 => key (d (p k.val)) (p k.val).val) = nbrs d := by
  have hm : ∀ n i, m n i = if ∃ j < n, p j = i then ⊤ else d i := by
    intro n
    induction n with
    | zero => intro i; rw [h0, if_neg (by rintro ⟨j, hj, _⟩; omega)]
    | succ n ih =>
      intro i
      rw [hs]
      by_cases hi : i = p n
      · rw [if_pos hi, if_pos ⟨n, by omega, hi.symm⟩]
      · rw [if_neg hi, ih i]
        refine if_congr ⟨fun ⟨j, hj, e⟩ => ⟨j, by omega, e⟩, fun ⟨j, hj, e⟩ => ⟨j, ?_, e⟩⟩ rfl rfl
        rcases Nat.lt_or_eq_of_le (Nat.le_of_lt_succ hj) with h | h
        · exact h
        · exact absurd (by rw [← e, h]) hi
  have hnew : ∀ n, n < 2048 → ∀ j, j < n → p j ≠ p n := by
    intro n hn j hj e
    obtain ⟨i, hi⟩ : ∃ i, i ∉ (Finset.range n).image p := by
      by_contra hall
      push Not at hall
      have h1 : (Finset.univ : Finset (Fin 2048)).card ≤ ((Finset.range n).image p).card :=
        Finset.card_le_card fun i _ => hall i
      have h2 := Finset.card_image_le (s := Finset.range n) (f := p)
      rw [Finset.card_univ, Fintype.card_fin] at h1
      rw [Finset.card_range] at h2
      omega
    have h := hp n i
    have h1 : m n i = d i := by
      rw [hm n i, if_neg (fun ⟨j', hj', e'⟩ => hi (Finset.mem_image.mpr ⟨j', Finset.mem_range.mpr hj', e'⟩))]
    have h2 : m n (p n) = ⊤ := by rw [hm n (p n), if_pos ⟨j, hj, e⟩]
    rw [h1, h2] at h
    rcases key_le.mp h with h | ⟨h, -⟩
    · exact absurd h (not_lt.mpr le_top)
    · exact absurd (hd i) (by rw [← h]; exact lt_irrefl _)
  have hne : ∀ i j : ℕ, i < 2048 → j < 2048 → i ≠ j → p i ≠ p j := by
    intro i j hi hj hij e
    rcases Nat.lt_or_gt_of_ne hij with h | h
    · exact hnew j hj i h e
    · exact hnew i hi j h e.symm
  have hat : ∀ n, n < 2048 → m n (p n) = d (p n) := fun n hn => by
    rw [hm, if_neg (fun ⟨j, hj, e⟩ => hnew n hn j hj e)]
  refine nbrs_of_pick d (fun k => p k.val) (fun i j e => ?_) (fun i j hij => ?_) (fun b hb i => ?_)
  · by_contra hij
    exact hne i.val j.val (by omega) (by omega) (fun h => hij (Fin.ext h)) e
  · have h := hp i.val (p j.val)
    rw [hat i.val (by omega), hm, if_neg] at h
    · exact h
    · rintro ⟨j', hj', e⟩
      have : i.val < j.val := hij
      exact hne j' j.val (by omega) (by omega) (by omega) e
  · have h := hp i.val b
    rw [hat i.val (by omega), hm, if_neg] at h
    · exact h
    · rintro ⟨j', hj', e⟩
      exact hb ⟨j', by omega⟩ e

/-- Putting a point into a sorted list, where the points after it in number go after it among equals. -/
theorem map_insertBefore (d : Fin 2048 → EReal) (before : Fin 2048 → Fin 2048 → Bool) (hb : ∀ a b, before a b = true ↔ d a < d b)
    (a : Fin 2048) (l : List (Fin 2048)) (hl : ∀ b ∈ l, a < b) :
    (insertBefore before a l).map (fun b => key (d b) b.val) = (l.map fun b => key (d b) b.val).orderedInsert (· ≥ ·) (key (d a) a.val) := by
  induction l with
  | nil => simp [insertBefore]
  | cons b l ih =>
    have hab : a < b := hl b List.mem_cons_self
    have hab' : (a.val : ℤ) < b.val := by exact_mod_cast hab
    unfold insertBefore
    rw [List.map_cons, List.orderedInsert_cons]
    by_cases h : before b a = true
    · rw [if_pos h, if_neg]
      · rw [List.map_cons, ih fun c hc => hl c (List.mem_cons_of_mem _ hc)]
      · intro hk
        rcases key_le.mp hk with h' | ⟨h', _⟩
        · exact absurd ((hb b a).mp h) (not_lt.mpr h'.le)
        · exact absurd ((hb b a).mp h) (by rw [h']; exact lt_irrefl _)
    · rw [if_neg h, if_pos]
      · rfl
      · have h' : d a ≤ d b := not_lt.mp fun h' => h ((hb b a).mpr h')
        rcases lt_or_eq_of_le h' with h' | h'
        · exact key_le.mpr (Or.inl h')
        · exact key_le.mpr (Or.inr ⟨h', hab'.le⟩)

/-- The stable sort of the points by distance is the sort of the pairs. -/
theorem map_stableSort (d : Fin 2048 → EReal) (before : Fin 2048 → Fin 2048 → Bool) (hb : ∀ a b, before a b = true ↔ d a < d b)
    (l : List (Fin 2048)) (hl : l.Pairwise (· < ·)) :
    (stableSort before l).map (fun b => key (d b) b.val) = (l.map fun b => key (d b) b.val).insertionSort (· ≥ ·) := by
  induction l with
  | nil => simp [stableSort]
  | cons a l ih =>
    rw [List.pairwise_cons] at hl
    show (insertBefore before a (stableSort before l)).map _ = _
    rw [map_insertBefore d before hb a _ fun b hb' => hl.1 b ((perm_stableSort before l).mem_iff.mp hb'), ih hl.2, List.map_cons, List.insertionSort_cons]

/-- The first sixteen places of the stable sort by distance hold the sixteen nearest. -/
theorem nbrs_of_sort (d : Fin 2048 → EReal) (before : Fin 2048 → Fin 2048 → Bool) (hb : ∀ a b, before a b = true ↔ d a < d b)
    (r : Fin 16) : ((sortedFrom before (⟨r.val, by omega⟩ : Fin 2048)).val : ℤ) = nbr d r := by
  have h := map_stableSort d before hb (List.finRange 2048) (List.pairwise_lt_finRange 2048)
  have hk : (List.finRange 2048).map (fun b : Fin 2048 => key (d b) b.val) = keys d := by
    unfold keys; rw [List.ofFn_eq_map]
  rw [hk] at h
  unfold nbr nbrs topList
  simp only [← h, List.getElem_take, List.getElem_map, idx_key]
  rfl

end Cert.Proof

end
-- ==== Proof.Tc.lean ====
module

public import proofs.«01_k».proof.Proof.Region
public import proofs.«01_k».proof.Proof.Near
public import Idealize.ShloMosaic.Lib.Pointwise
public import Idealize.ShloMosaic.Lib.Pipeline.ValueKit.Basic
public import Idealize.ShloMosaic.PureOps.Ideal

@[expose] public section

noncomputable section

/-! The TensorCore kernel over the extended reals: each round finds the nearest point of a row and raises its distance
    to infinity, so the sixteen rounds find the row's sixteen nearest. -/

namespace Cert.Proof

open Idealize.ShloMosaic Cert.KernelIdeal Cert.KernelIdeal.Gen

/-! ## The constants -/

theorem lit_inf : Scalar.ofBits (F := Ideal) .f32 0x7F800000#32 = (⊤ : EReal) := by
  show Ideal.ofBits .f32 0x7F800000#32 = ⊤
  simp [Ideal.ofBits, Ideal.ieee]

theorem lit_2048 : Scalar.ofBits (F := Ideal) .f32 0x45000000#32 = ((2048 : ℝ) : EReal) := by
  show Ideal.ofBits .f32 0x45000000#32 = _
  simp [Ideal.ofBits, Ideal.ieee, -EReal.coe_mul]; norm_num

theorem lit_two : Scalar.ofBits (F := Ideal) .f32 0x40000000#32 = ((2 : ℝ) : EReal) := by
  show Ideal.ofBits .f32 0x40000000#32 = _
  simp [Ideal.ofBits, Ideal.ieee, -EReal.coe_mul]; norm_num

/-! ## The nearest of a row -/

theorem exists_nearest (f : Fin 2048 → EReal) : ∃ p : Fin 2048, ∀ i, key (f i) i.val ≤ key (f p) p.val :=
  Finite.exists_max fun i : Fin 2048 => key (f i) i.val

/-- The first of a row's least entries. -/
def nearest (f : Fin 2048 → EReal) : Fin 2048 := Classical.choose (exists_nearest f)

theorem nearest_spec (f : Fin 2048 → EReal) (i : Fin 2048) : key (f i) i.val ≤ key (f (nearest f)) (nearest f).val :=
  Classical.choose_spec (exists_nearest f) i

section Row

variable (d : FVec Ideal S512x2048 .f32) (r : Fin 512)

/-- A row of the block. -/
def row : Fin 2048 → EReal := fun i => d (ix2 r i)

theorem rowMin_fold : rowMin d (ix1 r) = (Finset.univ : Finset (Fin 2048)).fold min ⊤ (row d r) := by
  unfold rowMin
  refine (multiReduction_minimumf_eq_fold _ _ _ _ _ _).trans ((Shape.Reduces.fold_fiber_r2_a1 _ _ _ _ _).trans ?_)
  show Finset.fold min (Scalar.ofBits (F := Ideal) .f32 0x7F800000#32) _ _ = _
  rw [lit_inf]
  rfl

theorem rowMin_le (i : Fin 2048) : rowMin d (ix1 r) ≤ d (ix2 r i) := by
  rw [rowMin_fold]
  exact (Finset.le_fold_min _).mp (le_refl _) |>.2 i (Finset.mem_univ _)

theorem le_rowMin (c : EReal) (h : ∀ i, c ≤ d (ix2 r i)) : c ≤ rowMin d (ix1 r) := by
  rw [rowMin_fold]
  exact (Finset.le_fold_min _).mpr ⟨le_top, fun i _ => h i⟩

theorem rowMin_nearest : rowMin d (ix1 r) = row d r (nearest (row d r)) := by
  refine le_antisymm (rowMin_le d r _) (le_rowMin d r _ fun i => ?_)
  rcases key_le.mp (nearest_spec (row d r) i) with h | h
  · exact h.le
  · exact h.1.le

/-- A column of one number a row, laid along the columns, read at an entry. -/
theorem column_apply {α : Type} (v : S512.Idx → α) (i : Fin 2048) :
    broadcastTo S512x2048 (shapeCast S512x1 v shapeCasts_S512_S512x1) broadcasts_S512x1_S512x2048 (ix2 r i) = v (ix1 r) := by
  simp only [pointwise]
  exact congrArg (fun a => v (ix1 a)) (dif_neg (by decide))

theorem cols_apply (i : Fin 2048) : (cols (F := Ideal)) (ix2 r i) = ((i.val : ℝ) : EReal) := by
  have h : (cols (F := Ideal)) (ix2 r i) = (((BitVec.ofNat 32 (0 * 2048 + i.val)).toInt : ℝ) : EReal) := by
    unfold cols k1_pay5
    simp only [pointwise]
    rfl
  rw [h, Nat.zero_mul, Nat.zero_add]
  rw [BitVec.toInt_eq_toNat_of_lt]
  · rw [BitVec.toNat_ofNat, Nat.mod_eq_of_lt (by omega)]; rfl
  · rw [BitVec.toNat_ofNat, Nat.mod_eq_of_lt (by omega)]; omega

theorem atMost_apply (v : FVec Ideal S512 .f32) (i : Fin 2048) : atMost d v (ix2 r i) = BitVec.ofBool (decide (d (ix2 r i) ≤ v (ix1 r))) := by
  show Ideal.cmp .ole _ _ = _
  rw [column_apply]
  rfl

/-- A round finds the first of the row's least entries. -/
theorem argMin_apply : argMin d (ix1 r) = (((nearest (row d r)).val : ℝ) : EReal) := by
  have hsel : ∀ i : Fin 2048, select (atMost d (rowMin d)) cols (broadcast S512x2048 (Scalar.ofBits (F := Ideal) .f32 0x45000000#32)) (ix2 r i)
      = if d (ix2 r i) ≤ rowMin d (ix1 r) then ((i.val : ℝ) : EReal) else ((2048 : ℝ) : EReal) := by
    intro i
    show Scalar.select (atMost d (rowMin d) (ix2 r i)) (cols (F := Ideal) (ix2 r i)) (Scalar.ofBits (F := Ideal) .f32 0x45000000#32) = _
    rw [atMost_apply, cols_apply, lit_2048]
    by_cases h : d (ix2 r i) ≤ rowMin d (ix1 r)
    · rw [if_pos h, decide_eq_true h]; rfl
    · rw [if_neg h, decide_eq_false h]; rfl
  unfold argMin firstOf
  refine le_antisymm ?_ (le_rowMin _ r _ fun i => ?_)
  · refine (rowMin_le _ r (nearest (row d r))).trans (le_of_eq ?_)
    rw [hsel, if_pos (show d (ix2 r (nearest (row d r))) ≤ rowMin d (ix1 r) from (rowMin_nearest d r).ge)]
  · rw [hsel]
    split
    · next h =>
      rw [rowMin_nearest] at h
      have h' := nearest_spec (row d r) i
      rcases key_le.mp h' with h2 | h2
      · exact absurd h (not_le.mpr h2)
      · have : (nearest (row d r)).val ≤ i.val := by exact_mod_cast h2.2
        exact_mod_cast this
    · have := (nearest (row d r)).isLt
      exact_mod_cast this.le

/-- A round raises that entry to infinity and leaves the rest. -/
theorem row_raised (i : Fin 2048) : row (raised d) r i = if i = nearest (row d r) then ⊤ else row d r i := by
  have hc : isCol (argCol d) (ix2 r i) = BitVec.ofBool (decide (i = nearest (row d r))) := by
    unfold isCol
    rw [ValueIdx.cmpf_apply, cols_apply, column_apply, argMin_apply]
    show BitVec.ofBool (decide _) = _
    congr 1
    rw [decide_eq_decide]
    refine ⟨fun h => Fin.ext (by exact_mod_cast h), fun h => by rw [h]⟩
  show Scalar.select (isCol (argCol d) (ix2 r i)) (Scalar.ofBits (F := Ideal) .f32 0x7F800000#32) (d (ix2 r i)) = _
  rw [hc, lit_inf]
  by_cases h : i = nearest (row d r)
  · rw [if_pos h, decide_eq_true h]; rfl
  · rw [if_neg h, decide_eq_false h]; rfl

/-- The sixteen rounds find the sixteen nearest of a row of finite distances. -/
theorem rounds_nbr (hd : ∀ i, row d r i < ⊤) (k : Fin 16) : ((nearest (row (after k.val d) r)).val : ℤ) = nbr (row d r) k := by
  have h := nbrs_of_rounds (row d r) hd (fun n => row (after n d) r) (fun n => nearest (row (after n d) r)) rfl
    (fun n i => row_raised (after n d) r i) (fun n i => nearest_spec _ i)
  exact nbr_of_ofFn h k

theorem argCol_apply : argCol d (ix2 r 0) = argMin d (ix1 r) := by
  unfold argCol
  simp only [pointwise]

theorem sixteen_list : sixteen d = concatenate S512x16 1 (List.ofFn fun n : Fin 16 => (⟨S512x1, argCol (after n.val d)⟩ : (s : Shape) × (s.Idx → EReal)))
    concatenates_S512x1_S512x1_S512x1_S512x1_S512x1_S512x1_S512x1_S512x1_S512x1_S512x1_S512x1_S512x1_S512x1_S512x1_S512x1_S512x1_S512x16_d1 := rfl

/-- The sixteen columns found, at a row and a round. -/
theorem sixteen_apply (k : Fin 16) : sixteen d (ix2 r k) = (((nearest (row (after k.val d) r)).val : ℝ) : EReal) := by
  rw [← argMin_apply, ← argCol_apply]
  rw [sixteen_list]
  exact concatenate_ofFn_unit_apply (t := S512x16) (s₁ := S512x1) 1 (fun n : Fin 16 => argCol (after n.val d)) _ rfl rfl _ k rfl _ (fun b hb => by
    match b with
    | ⟨0, _⟩ => rfl
    | ⟨1, _⟩ => exact absurd rfl hb)

end Row

/-! ## A block -/

section Block

variable (x : Vec Ideal S1x512x8 .f32) (y : Vec Ideal S1x8x2048 .f32) (r : Fin 512)

theorem pay4_apply (i : Fin 2048) : k1_pay4 x y (ix2 r i)
    = ((∑ k : Fin 8, x (ix3 0 r k) * x (ix3 0 r k)) + ∑ k : Fin 8, y (ix3 0 k i) * y (ix3 0 k i))
      - Scalar.ofBits (F := Ideal) .f32 0x40000000#32 * ∑ k : Fin 8, x (ix3 0 r k) * y (ix3 0 k i) := by
  unfold k1_pay4
  simp only [pointwise]
  rw [zero_add]
  rfl

theorem fptosi_number (n : ℕ) (hn : n < 2048) : Ideal.fptosi 32 ((n : ℝ) : EReal) = BitVec.ofInt 32 n := by
  unfold Ideal.fptosi
  rw [Ideal.toIntClamped_coe, if_pos (by positivity), Int.floor_natCast]
  congr 1
  rw [min_eq_right (by norm_num; omega), max_eq_right (by norm_num)]

/-- What a grid point leaves at a row and a place: the batch's first row and the neighbour's number. -/
theorem blkOut_apply (i : grid1.Coords) (hd : ∀ j, row (k1_pay4 x y) r j < ⊤) (k : Fin 16) :
    blkOut i x y (ix3 0 r k) = BitVec.ofInt 32 (nbr (row (k1_pay4 x y) r) k) + batchOf i * 2048#32 := by
  have e : blkOut i x y = k1_pay3 (batchOf i) (sixteen (k1_pay4 x y)) := by
    unfold blkOut
    rw [show View.ld x rX = x from View.ld_unit_lit _ _ (by decide), show View.ld y rY = y from View.ld_unit_lit _ _ (by decide)]
    exact View.canon_cons_unit_lit _ _ _ (by decide)
  rw [e, ← rounds_nbr _ r hd k]
  unfold k1_pay3
  simp only [pointwise]
  rw [sixteen_apply]
  exact congrArg (· + batchOf i * 2048#32) (fptosi_number _ (Fin.isLt _))

end Block

end Cert.Proof

end
-- ==== Proof.Blocks.lean ====
module

public import proofs.«01_k».proof.Proof.Tc
public import Idealize.ShloMosaic.Lib.Pipeline.ValueKit.Geometry

@[expose] public section

noncomputable section

namespace Cert.Proof

open Idealize.ShloMosaic
open Cert.KernelIdeal Cert.KernelIdeal.Gen

/-! # The TensorCore kernel's result, index by index -/

/-! ## Where the blocks lie: point `t` works on batch `t / 4`, its rows from `512 (t % 4)` -/

theorem index0 : ∀ t : Fin cfg1.N, (win1_0.index t 0 = t.val / 4 ∧ win1_0.index t 1 = t.val % 4) ∧ win1_0.index t 2 = 0 :=
  (by decide +kernel : ∀ t : Fin grid1.N, (win1_0.index t 0 = t.val / 4 ∧ win1_0.index t 1 = t.val % 4) ∧ win1_0.index t 2 = 0)
theorem index1 : ∀ t : Fin cfg1.N, (win1_1.index t 0 = t.val / 4 ∧ win1_1.index t 1 = 0) ∧ win1_1.index t 2 = 0 :=
  (by decide +kernel : ∀ t : Fin grid1.N, (win1_1.index t 0 = t.val / 4 ∧ win1_1.index t 1 = 0) ∧ win1_1.index t 2 = 0)
theorem index2 : ∀ t : Fin cfg1.N, (win1_2.index t 0 = t.val / 4 ∧ win1_2.index t 1 = t.val % 4) ∧ win1_2.index t 2 = 0 :=
  (by decide +kernel : ∀ t : Fin grid1.N, (win1_2.index t 0 = t.val / 4 ∧ win1_2.index t 1 = t.val % 4) ∧ win1_2.index t 2 = 0)
/-- The batch the body computes is that one. -/
theorem batch_at : ∀ t : Fin cfg1.N, batchOf (grid1.coords t) = BitVec.ofNat 32 (t.val / 4) :=
  (by decide +kernel : ∀ t : Fin grid1.N, batchOf (grid1.coords t) = BitVec.ofNat 32 (t.val / 4))

theorem index2_inj (t t' : Fin cfg1.N) (h : win1_2.index t = win1_2.index t') : t = t' := by
  have h0 := congrFun h 0
  have h1 := congrFun h 1
  rw [(index2 t).1.1, (index2 t').1.1] at h0
  rw [(index2 t).1.2, (index2 t').1.2] at h1
  apply Fin.ext
  omega

section Found

variable (W₀ : (d : Dev nD) → (b : Ref sig .tc) → Buf (Elt Ideal) ((d.tc : Thread nD τ).loc b)) (c : Dev nD) (t : Fin cfg1.N)

/-- The block of 512 points at a point of the grid. -/
theorem rows_at (r : Fin 512) (k : Fin 8) : blkAt W₀ c 0 t (ix3 0 r k)
    = W₀ c main_v13 (ix3 ⟨t.val / 4, by have : t.val < 29 := t.isLt; omega⟩ ⟨512 * (t.val % 4) + r.val, by have := r.isLt; omega⟩ k) := by
  show W₀ c main_v13 (((cfg1.win 0).blk t).view.emb (ix3 0 r k)) = _
  congr 1
  funext a
  apply Fin.ext
  refine ((cfg1.win 0).rect_emb_val t (ix3 0 r k) a).trans ?_
  match a with
  | ⟨0, _⟩ => show win1_0.index t 0 * 1 + 0 = t.val / 4; rw [(index0 t).1.1]; omega
  | ⟨1, _⟩ => show win1_0.index t 1 * 512 + r.val = 512 * (t.val % 4) + r.val; rw [(index0 t).1.2]; omega
  | ⟨2, _⟩ => show win1_0.index t 2 * 8 + k.val = k.val; rw [(index0 t).2]; omega

/-- The batch's points, coordinate by coordinate, at a point of the grid. -/
theorem batch_rows_at (k : Fin 8) (j : Fin 2048) : blkAt W₀ c 1 t (ix3 0 k j)
    = W₀ c main_v14 (ix3 ⟨t.val / 4, by have : t.val < 29 := t.isLt; omega⟩ k j) := by
  show W₀ c main_v14 (((cfg1.win 1).blk t).view.emb (ix3 0 k j)) = _
  congr 1
  funext a
  apply Fin.ext
  refine ((cfg1.win 1).rect_emb_val t (ix3 0 k j) a).trans ?_
  match a with
  | ⟨0, _⟩ => show win1_1.index t 0 * 1 + 0 = t.val / 4; rw [(index1 t).1.1]; omega
  | ⟨1, _⟩ => show win1_1.index t 1 * 8 + k.val = k.val; rw [(index1 t).1.2]; omega
  | ⟨2, _⟩ => show win1_1.index t 2 * 2048 + j.val = j.val; rw [(index1 t).2]; omega

/-- The result array, under a grid point's block, is what the point wrote. -/
theorem found_apply (r : Fin 512) (k : Fin 16) :
    found W₀ c (ix3 ⟨t.val / 4, by have : t.val < 29 := t.isLt; omega⟩ ⟨512 * (t.val % 4) + r.val, by have := r.isLt; omega⟩ k)
      = blkOut (grid1.coords t) (blkAt W₀ c 0 t) (blkAt W₀ c 1 t) (ix3 0 r k) := by
  have h := congrFun ((dat W₀ c).read_blk_arrAt_eq_flushed 2
    (fun u u' _ _ hne => (cfg1.win 2).disjoint_blk fun h => hne (index2_inj u u' h)) cfg1.N t t.isLt (flush1_2 t)) (ix3 0 r k)
  rw [← dat_after2]
  refine Eq.trans ?_ h
  show _ = found W₀ c (((cfg1.win 2).blk t).view.emb (ix3 0 r k))
  congr 1
  funext a
  apply Fin.ext
  refine Eq.trans ?_ ((cfg1.win 2).rect_emb_val t (ix3 0 r k) a).symm
  match a with
  | ⟨0, _⟩ => show t.val / 4 = win1_2.index t 0 * 1 + 0; rw [(index2 t).1.1]; omega
  | ⟨1, _⟩ => show 512 * (t.val % 4) + r.val = win1_2.index t 1 * 512 + r.val; rw [(index2 t).1.2]; omega
  | ⟨2, _⟩ => show k.val = win1_2.index t 2 * 16 + k.val; rw [(index2 t).2]; omega

end Found

/-! ## The distances of a row of the padded arrays -/

/-- The distance of point `n` of batch `b` from the batch's point `j`, as the TensorCore computes it of the padded arrays. -/
def tdist (U : Vec Ideal S8x2048x8 .f32) (V : Vec Ideal S8x8x2048 .f32) (b : Fin 8) (n j : Fin 2048) : EReal :=
  ((∑ k : Fin 8, U (ix3 b n k) * U (ix3 b n k)) + ∑ k : Fin 8, V (ix3 b k j) * V (ix3 b k j))
    - Scalar.ofBits (F := Ideal) .f32 0x40000000#32 * ∑ k : Fin 8, U (ix3 b n k) * V (ix3 b k j)

/-- The region's result on the rows it covers: the neighbour's number in the whole input. -/
theorem found_nbr (W₀ : (d : Dev nD) → (b : Ref sig .tc) → Buf (Elt Ideal) ((d.tc : Thread nD τ).loc b)) (c : Dev nD)
    (b : Fin 8) (n : Fin 2048) (hn : 2048 * b.val + n.val < 14848) (k : Fin 16)
    (hd : ∀ j, tdist (W₀ c main_v13) (W₀ c main_v14) b n j < ⊤) :
    found W₀ c (ix3 b n k)
      = BitVec.ofInt 32 (nbr (tdist (W₀ c main_v13) (W₀ c main_v14) b n) k) + BitVec.ofNat 32 b.val * 2048#32 := by
  have hb := b.isLt
  have hn' := n.isLt
  let t : Fin cfg1.N := ⟨4 * b.val + n.val / 512, by show _ < 29; omega⟩
  have ht : t.val = 4 * b.val + n.val / 512 := rfl
  let r : Fin 512 := ⟨n.val % 512, by omega⟩
  have hr : r.val = n.val % 512 := rfl
  have eb : (⟨t.val / 4, by have : t.val < 29 := t.isLt; omega⟩ : Fin 8) = b := Fin.ext (by show t.val / 4 = _; omega)
  have en : (⟨512 * (t.val % 4) + r.val, by have := r.isLt; omega⟩ : Fin 2048) = n := Fin.ext (by show 512 * (t.val % 4) + r.val = _; omega)
  have hrow : row (k1_pay4 (blkAt W₀ c 0 t) (blkAt W₀ c 1 t)) r = tdist (W₀ c main_v13) (W₀ c main_v14) b n := by
    funext j
    refine (pay4_apply _ _ r j).trans ?_
    simp only [rows_at, batch_rows_at, eb, en]
    rfl
  have h := found_apply W₀ c t r k
  rw [eb, en] at h
  rw [h, blkOut_apply _ _ r (grid1.coords t) (fun j => by rw [hrow]; exact hd j) k, hrow, batch_at t, show t.val / 4 = b.val from congrArg Fin.val eb]

end Cert.Proof

end
-- ==== Proof.Sc.lean ====
module

public import proofs.«01_k».proof.Proof.Net
public import proofs.«01_k».proof.Proof.Near
public import Idealize.ShloMosaic.Lib.SortNet.Sorts
public import Idealize.ShloMosaic.Lib.SortNet.Fold
public import Idealize.ShloMosaic.PureOps.Ideal

@[expose] public section

noncomputable section

/-! The SparseCore kernel over the extended reals: its ten stages are a sorting network, its merge keeps the sixteen
    nearest, and after all the chunks it holds the sixteen nearest of the row. -/

namespace Cert.Proof

open Idealize.ShloMosaic Idealize.ShloMosaic.SortNet Cert.KernelIdeal Cert.KernelIdeal.Gen

/-- The pair in a lane. -/
def ent (st : KV Ideal) (l : Fin (2 ^ 4)) : Key := key (st.1 (ln l)) (st.2 (ln l)).toInt

/-! ## Lanes -/

theorem bit0_1 : ∀ j : Fin (2 ^ 4), bit0 1#32 (ln j) = BitVec.ofBool (decide (j.val &&& 2 ^ 0 = 0)) := by decide +kernel
theorem bit0_2 : ∀ j : Fin (2 ^ 4), bit0 2#32 (ln j) = BitVec.ofBool (decide (j.val &&& 2 ^ 1 = 0)) := by decide +kernel
theorem bit0_4 : ∀ j : Fin (2 ^ 4), bit0 4#32 (ln j) = BitVec.ofBool (decide (j.val &&& 2 ^ 2 = 0)) := by decide +kernel
theorem bit0_8 : ∀ j : Fin (2 ^ 4), bit0 8#32 (ln j) = BitVec.ofBool (decide (j.val &&& 2 ^ 3 = 0)) := by decide +kernel
theorem bit0_16 : ∀ j : Fin (2 ^ 4), bit0 16#32 (ln j) = BitVec.ofBool (decide (j.val &&& 2 ^ 4 = 0)) := by decide +kernel

section Lanes
variable {α : Type} (x : S16.Idx → α) (l : Fin (2 ^ 4))

theorem xr1_apply : xr1 x (ln l) = x (ln (partner 4 0 l)) := by
  fin_cases l <;> exact congrArg x (by funext a; match a with | ⟨0, _⟩ => rfl)
theorem xr2_apply : xr2 x (ln l) = x (ln (partner 4 1 l)) := by
  fin_cases l <;> exact congrArg x (by funext a; match a with | ⟨0, _⟩ => rfl)
theorem xr4_apply : xr4 x (ln l) = x (ln (partner 4 2 l)) := by
  fin_cases l <;> exact congrArg x (by funext a; match a with | ⟨0, _⟩ => rfl)
theorem xr8_apply : xr8 x (ln l) = x (ln (partner 4 3 l)) := by
  fin_cases l <;> exact congrArg x (by funext a; match a with | ⟨0, _⟩ => rfl)

theorem rev16_apply : rev16 x (ln l) = x (ln (Fin.rev l)) := by
  unfold rev16
  rw [xr1_apply, xr2_apply, xr4_apply, xr8_apply]
  exact congrArg (fun i => x (ln i)) ((by decide +kernel :
    ∀ l : Fin (2 ^ 4), partner 4 3 (partner 4 2 (partner 4 1 (partner 4 0 l))) = Fin.rev l) l)

end Lanes

/-! ## A stage -/

/-- A truth value as a word. -/
def word (b : Bool) : BitVec 32 := if b then 1#32 else 0#32

theorem b2i_apply (m : IVec S16 1) (j : S16.Idx) (b : Bool) (h : m j = BitVec.ofBool b) : b2i m j = word b := by
  show Scalar.select (m j) 1#32 0#32 = _
  rw [h]
  cases b <;> rfl

theorem pairLt_apply (k k' : FVec Ideal S16 .f32) (v v' : IVec S16 32) (j : S16.Idx) :
    pairLt k k' v v' j = word (decide (key (k' j) (v' j).toInt < key (k j) (v j).toInt)) := by
  have h1 : b2i (cmpf .olt k k') j = word (decide (k j < k' j)) := b2i_apply _ _ _ rfl
  have h2 : b2i (cmpf .oeq k k') j = word (decide (k j = k' j)) := b2i_apply _ _ _ rfl
  have h3 : b2i (cmpi .slt v v') j = word (decide ((v j).toInt < (v' j).toInt)) := b2i_apply _ _ _ (by
    show BitVec.ofBool (BitVec.slt (v j) (v' j)) = _
    rw [BitVec.slt_eq_decide])
  show b2i (cmpf .olt k k') j ||| (b2i (cmpf .oeq k k') j &&& b2i (cmpi .slt v v') j) = _
  rw [h1, h2, h3, show decide (key (k' j) (v' j).toInt < key (k j) (v j).toInt)
    = (decide (k j < k' j) || (decide (k j = k' j) && decide ((v j).toInt < (v' j).toInt))) by
      rw [← Bool.decide_and, ← Bool.decide_or]; exact decide_eq_decide.mpr key_lt]
  generalize decide (k j < k' j) = a
  generalize decide (k j = k' j) = b
  generalize decide ((v j).toInt < (v' j).toInt) = c
  revert a b c
  decide

theorem pick_apply (mm : IVec S16 32) (st p : KV Ideal) (j : Fin (2 ^ 4)) (b : Bool) (h : mm (ln j) = word (!b)) :
    ent (pick mm st p) j = if b then ent st j else ent p j := by
  have hm : cmpi .eq mm (broadcast S16 0#32) (ln j) = BitVec.ofBool b := by
    show BitVec.ofBool (mm (ln j) == 0#32) = _
    rw [h]; cases b <;> rfl
  show key (Scalar.select (cmpi .eq mm (broadcast S16 0#32) (ln j)) (st.1 (ln j)) (p.1 (ln j)))
    (Scalar.select (cmpi .eq mm (broadcast S16 0#32) (ln j)) (st.2 (ln j)) (p.2 (ln j))).toInt = _
  rw [hm]; cases b <;> rfl

/-- The position's partner at distance `2 ^ s`, in the same place of the block. -/
theorem keep_partner : ∀ s l : Fin 4, s ≤ l → ∀ j : Fin (2 ^ 4),
    (decide ((partner 4 s j).val &&& 2 ^ s.val = 0) == decide ((partner 4 s j).val &&& 2 ^ (l.val + 1) = 0))
      = !(decide (j.val &&& 2 ^ s.val = 0) == decide (j.val &&& 2 ^ (l.val + 1) = 0)) := by decide +kernel

theorem low_partner : ∀ s : Fin 4, ∀ j : Fin (2 ^ 4),
    decide ((partner 4 s j).val &&& 2 ^ s.val = 0) = !decide (j.val &&& 2 ^ s.val = 0) := by decide +kernel

section Stage

variable (s : Fin 4) (sB kB : BitVec 32) (hsB : ∀ j : Fin (2 ^ 4), bit0 sB (ln j) = BitVec.ofBool (decide (j.val &&& 2 ^ s.val = 0)))
  (st p : KV Ideal) (hp : ∀ j, ent p j = ent st (partner 4 s j))

include hsB hp

/-- A stage of the sort is the network's. -/
theorem csOf_ent (l : Fin 4) (hsl : s ≤ l) (hkB : ∀ j : Fin (2 ^ 4), bit0 kB (ln j) = BitVec.ofBool (decide (j.val &&& 2 ^ (l.val + 1) = 0))) :
    ent (csOf sB kB st p) = Network.apply (stage 4 s fun i => decide (i.val &&& 2 ^ (l.val + 1) = 0) == true) (ent st) := by
  funext j
  rw [stage_congr (w' := fun i => decide (i.val &&& 2 ^ s.val = 0) == decide (i.val &&& 2 ^ (l.val + 1) = 0)) (fun i hi => by
    rw [hi]; generalize decide (i.val &&& 2 ^ (l.val + 1) = 0) = b; revert b; decide)]
  rw [apply_stage_select s.isLt _ (keep_partner s l hsl), ← hp j]
  unfold csOf
  rw [pick_apply _ _ _ _ (decide (ent p j < ent st j) == (decide (j.val &&& 2 ^ s.val = 0) == decide (j.val &&& 2 ^ (l.val + 1) = 0)))]
  · simp only [beq_iff_eq]
  · show ((1#32 ^^^ b2i (bit0 sB) (ln j)) ^^^ b2i (bit0 kB) (ln j)) ^^^ pairLt st.1 p.1 st.2 p.2 (ln j) = _
    rw [b2i_apply _ _ _ (hsB j), b2i_apply _ _ _ (hkB j), pairLt_apply]
    show ((1#32 ^^^ word _) ^^^ word _) ^^^ word (decide (ent p j < ent st j)) = _
    generalize decide (ent p j < ent st j) = a
    generalize decide (j.val &&& 2 ^ s.val = 0) = b
    generalize decide (j.val &&& 2 ^ (l.val + 1) = 0) = c
    revert a b c
    decide

/-- A stage of the merge is the network's. -/
theorem msOf_ent : ent (msOf sB st p) = Network.apply (stage 4 s fun _ => true) (ent st) := by
  funext j
  rw [stage_congr (w' := fun i => decide (i.val &&& 2 ^ s.val = 0)) (fun i hi => by rw [hi]; rfl)]
  rw [apply_stage_select s.isLt _ (low_partner s), ← hp j]
  unfold msOf
  rw [pick_apply _ _ _ _ (decide (ent p j < ent st j) == decide (j.val &&& 2 ^ s.val = 0))]
  · simp only [beq_iff_eq]
  · show b2i (bit0 sB) (ln j) ^^^ pairLt st.1 p.1 st.2 p.2 (ln j) = _
    rw [b2i_apply _ _ _ (hsB j), pairLt_apply]
    show word _ ^^^ word (decide (ent p j < ent st j)) = _
    generalize decide (ent p j < ent st j) = a
    generalize decide (j.val &&& 2 ^ s.val = 0) = b
    revert a b
    decide

end Stage

/-! ## The sort and the merge -/

section Nets

variable (st : KV Ideal)

/-- The network's stage that exchanges at distance `2 ^ s` in blocks of `2 ^ (l + 1)`. -/
abbrev sorting (s l : ℕ) : Network (2 ^ 4) := stage 4 s fun i => decide (i.val &&& 2 ^ (l + 1) = 0) == true

theorem cs1_ent (l : Fin 4) (kB : BitVec 32) (hkB : ∀ j : Fin (2 ^ 4), bit0 kB (ln j) = BitVec.ofBool (decide (j.val &&& 2 ^ (l.val + 1) = 0))) :
    ent (cs1 kB st) = Network.apply (sorting 0 l) (ent st) :=
  csOf_ent 0 1#32 kB bit0_1 st _ (fun j => by unfold ent; dsimp only; rw [xr1_apply, xr1_apply]; rfl) l (Fin.zero_le l) hkB

theorem cs2_ent (l : Fin 4) (hl : 1 ≤ l) (kB : BitVec 32) (hkB : ∀ j : Fin (2 ^ 4), bit0 kB (ln j) = BitVec.ofBool (decide (j.val &&& 2 ^ (l.val + 1) = 0))) :
    ent (cs2 kB st) = Network.apply (sorting 1 l) (ent st) :=
  csOf_ent 1 2#32 kB bit0_2 st _ (fun j => by unfold ent; dsimp only; rw [xr2_apply, xr2_apply]; rfl) l hl hkB

theorem cs4_ent (l : Fin 4) (hl : 2 ≤ l) (kB : BitVec 32) (hkB : ∀ j : Fin (2 ^ 4), bit0 kB (ln j) = BitVec.ofBool (decide (j.val &&& 2 ^ (l.val + 1) = 0))) :
    ent (cs4 kB st) = Network.apply (sorting 2 l) (ent st) :=
  csOf_ent 2 4#32 kB bit0_4 st _ (fun j => by unfold ent; dsimp only; rw [xr4_apply, xr4_apply]; rfl) l hl hkB

theorem cs8_ent : ent (cs8 16#32 st) = Network.apply (sorting 3 3) (ent st) :=
  csOf_ent 3 8#32 16#32 bit0_8 st _ (fun j => by unfold ent; dsimp only; rw [xr8_apply, xr8_apply]; rfl) 3 (le_refl _) bit0_16

theorem ms1_ent : ent (ms1 st) = Network.apply (stage 4 0 fun _ => true) (ent st) :=
  msOf_ent 0 1#32 bit0_1 st _ (fun j => by unfold ent; dsimp only; rw [xr1_apply, xr1_apply]; rfl)
theorem ms2_ent : ent (ms2 st) = Network.apply (stage 4 1 fun _ => true) (ent st) :=
  msOf_ent 1 2#32 bit0_2 st _ (fun j => by unfold ent; dsimp only; rw [xr2_apply, xr2_apply]; rfl)
theorem ms4_ent : ent (ms4 st) = Network.apply (stage 4 2 fun _ => true) (ent st) :=
  msOf_ent 2 4#32 bit0_4 st _ (fun j => by unfold ent; dsimp only; rw [xr4_apply, xr4_apply]; rfl)
theorem ms8_ent : ent (ms8 st) = Network.apply (stage 4 3 fun _ => true) (ent st) :=
  msOf_ent 3 8#32 bit0_8 st _ (fun j => by unfold ent; dsimp only; rw [xr8_apply, xr8_apply]; rfl)

theorem sortNet4 : sortNet 4 true = sorting 0 0 ++ (sorting 1 1 ++ (sorting 0 1 ++ (sorting 2 2 ++ (sorting 1 2 ++ (sorting 0 2 ++
    (sorting 3 3 ++ (sorting 2 3 ++ (sorting 1 3 ++ sorting 0 3)))))))) := by
  unfold sortNet
  rw [show List.range 4 = [0, 1, 2, 3] from rfl]
  simp only [List.flatMap_cons, List.flatMap_nil, List.append_nil, show (List.range (0 + 1)).reverse = [0] from rfl,
    show (List.range (1 + 1)).reverse = [1, 0] from rfl, show (List.range (2 + 1)).reverse = [2, 1, 0] from rfl,
    show (List.range (3 + 1)).reverse = [3, 2, 1, 0] from rfl, List.append_assoc]

theorem mergeNet4 : mergeDescNet 4 = stage 4 3 (fun _ => true) ++ (stage 4 2 (fun _ => true) ++ (stage 4 1 (fun _ => true) ++ stage 4 0 (fun _ => true))) := by
  unfold mergeDescNet
  rw [show (List.range 4).reverse = [3, 2, 1, 0] from rfl]
  simp only [List.flatMap_cons, List.flatMap_nil, List.append_nil]

/-- The ten stages are the sorting network. -/
theorem sort16_ent : ent (sort16 st) = Network.apply (sortNet 4 true) (ent st) := by
  unfold sort16
  rw [cs1_ent _ 3 _ bit0_16, cs2_ent _ 3 (by decide) _ bit0_16, cs4_ent _ 3 (by decide) _ bit0_16, cs8_ent, cs1_ent _ 2 _ bit0_8,
    cs2_ent _ 2 (by decide) _ bit0_8, cs4_ent _ 2 (by decide) _ bit0_8, cs1_ent _ 1 _ bit0_4, cs2_ent _ 1 (by decide) _ bit0_4,
    cs1_ent _ 0 _ bit0_2, sortNet4]
  simp only [Network.apply_append]
  rfl

/-- The four stages after the halves are taken are the merging network. -/
theorem merge16_ent (b : KV Ideal) : ent (merge16 b st) = Network.apply (mergeDescNet 4) (ent (take16 b (sort16 st))) := by
  unfold merge16
  rw [ms1_ent, ms2_ent, ms4_ent, ms8_ent, mergeNet4]
  simp only [Network.apply_append]

/-- Where among equal distances the best have the lower numbers, the lane by lane choice is the nearer pair. -/
theorem take16_ent (b c : KV Ideal) (h : ∀ l m : Fin (2 ^ 4), (b.2 (ln l)).toInt ≤ (c.2 (ln m)).toInt) :
    ent (take16 b c) = fun l => max (ent b l) (ent c (Fin.rev l)) := by
  funext l
  have e : ent (take16 b c) l = if b.1 (ln l) ≤ c.1 (ln (Fin.rev l)) then ent b l else ent c (Fin.rev l) := by
    show key (Scalar.select (BitVec.ofBool (decide (b.1 (ln l) ≤ rev16 c.1 (ln l)))) (b.1 (ln l)) (rev16 c.1 (ln l)))
      (Scalar.select (BitVec.ofBool (decide (b.1 (ln l) ≤ rev16 c.1 (ln l)))) (b.2 (ln l)) (rev16 c.2 (ln l))).toInt = _
    rw [rev16_apply, rev16_apply]
    by_cases hb : b.1 (ln l) ≤ c.1 (ln (Fin.rev l))
    · rw [if_pos hb, decide_eq_true hb]; rfl
    · rw [if_neg hb, decide_eq_false hb]; rfl
  rw [e]
  by_cases hb : b.1 (ln l) ≤ c.1 (ln (Fin.rev l))
  · rw [if_pos hb, max_eq_left]
    rcases lt_or_eq_of_le hb with hb | hb
    · exact key_le.mpr (Or.inl hb)
    · exact key_le.mpr (Or.inr ⟨hb, h _ _⟩)
  · rw [if_neg hb, max_eq_right]
    exact key_le.mpr (Or.inl (not_le.mp hb))

theorem rev_perm {α : Type} (f : Fin (2 ^ 4) → α) : (List.ofFn fun l => f (Fin.rev l)).Perm (List.ofFn f) := by
  exact Equiv.Perm.ofFn_comp_perm Fin.revPerm f

/-- The merge of a chunk keeps the sixteen nearest of the best and the chunk. -/
theorem merge16_topList (b c : KV Ideal) (hb : Antitone (ent b)) (h : ∀ l m : Fin (2 ^ 4), (b.2 (ln l)).toInt ≤ (c.2 (ln m)).toInt) :
    List.ofFn (ent (merge16 b c)) = topList 16 (List.ofFn (ent b) ++ List.ofFn (ent c)) := by
  obtain ⟨σ, hσ⟩ := Network.exists_perm (sortNet 4 true) (ent c)
  have hs : ∀ m, ent (sort16 c) m = ent c (σ m) := fun m => by rw [sort16_ent, hσ]; rfl
  rw [merge16_ent, take16_ent]
  · have hm : Monotone fun l : Fin (2 ^ 4) => ent (sort16 c) (Fin.rev l) := fun i j hij => by
      dsimp only
      rw [sort16_ent]
      exact sortNet_apply_antitone 4 (ent c) (Fin.rev_le_rev.mpr hij)
    rw [(foldStep 4 (ent b) _ hb hm).2]
    refine topList_perm (List.Perm.append_left _ ((rev_perm _).trans ?_))
    rw [show ent (sort16 c) = ent c ∘ σ from funext hs]
    exact Equiv.Perm.ofFn_comp_perm σ (ent c)
  · intro l m
    have e : ((sort16 c).2 (ln m)).toInt = (c.2 (ln (σ m))).toInt := congrArg idx (hs m)
    rw [e]
    exact h l _

end Nets

/-! ## The least of a chunk -/

theorem le_of_min {f g : Fin (2 ^ 4) → EReal} {s : ℕ} (h : ∀ l, g l = min (f l) (f (partner 4 s l))) {t u : Fin (2 ^ 4)}
    (htu : t = u ∨ t = partner 4 s u) : g u ≤ f t := by
  rw [h u]
  rcases htu with rfl | rfl
  · exact min_le_left _ _
  · exact min_le_right _ _

/-- The kernel's least of a chunk is at most every distance in it. -/
theorem min16_le (d : FVec Ideal S16 .f32) (t : Fin (2 ^ 4)) : min16 d (ln 0) ≤ d (ln t) := by
  have h1 : ∀ l, minimumf d (xr8 d) (ln l) = min (d (ln l)) (d (ln (partner 4 3 l))) := fun l => by
    rw [← xr8_apply d l]; rfl
  have h2 : ∀ x : FVec Ideal S16 .f32, ∀ l, minimumf x (xr4 x) (ln l) = min (x (ln l)) (x (ln (partner 4 2 l))) := fun x l => by
    rw [← xr4_apply x l]; rfl
  have h3 : ∀ x : FVec Ideal S16 .f32, ∀ l, minimumf x (xr2 x) (ln l) = min (x (ln l)) (x (ln (partner 4 1 l))) := fun x l => by
    rw [← xr2_apply x l]; rfl
  have h4 : ∀ x : FVec Ideal S16 .f32, ∀ l, minimumf x (xr1 x) (ln l) = min (x (ln l)) (x (ln (partner 4 0 l))) := fun x l => by
    rw [← xr1_apply x l]; rfl
  have hp : ∀ t : Fin (2 ^ 4), ((⟨t.val % 2, by omega⟩ : Fin (2 ^ 4)) = 0 ∨ (⟨t.val % 2, by omega⟩ : Fin (2 ^ 4)) = partner 4 0 0) ∧
      ((⟨t.val % 4, by omega⟩ : Fin (2 ^ 4)) = ⟨t.val % 2, by omega⟩ ∨ (⟨t.val % 4, by omega⟩ : Fin (2 ^ 4)) = partner 4 1 ⟨t.val % 2, by omega⟩) ∧
      ((⟨t.val % 8, by omega⟩ : Fin (2 ^ 4)) = ⟨t.val % 4, by omega⟩ ∨ (⟨t.val % 8, by omega⟩ : Fin (2 ^ 4)) = partner 4 2 ⟨t.val % 4, by omega⟩) ∧
      (t = ⟨t.val % 8, by omega⟩ ∨ t = partner 4 3 ⟨t.val % 8, by omega⟩) := by decide +kernel
  obtain ⟨a, b, c, e⟩ := hp t
  exact (le_of_min (f := fun l => _) (h4 _) a).trans ((le_of_min (f := fun l => _) (h3 _) b).trans
    ((le_of_min (f := fun l => _) (h2 _) c).trans (le_of_min (f := fun l => d (ln l)) h1 e)))

/-! ## The chunks -/

section Chunks

variable (X Y Z Q : S2048.Idx → EReal) (r : Fin 2048)

/-- The distance of the points `r` and `i`. -/
def pdist (i : Fin 2048) : EReal :=
  (Q (pt r) + Q (pt i)) - Scalar.ofBits (F := Ideal) .f32 0x40000000#32
    * ((X (pt r) * X (pt i) + Y (pt r) * Y (pt i)) + Z (pt r) * Z (pt i))

/-- A point's number from its chunk and lane. -/
abbrev at16 (n : ℕ) (h : n < 128) (l : Fin (2 ^ 4)) : Fin 2048 := ⟨16 * n + l.val, by have := l.isLt; omega⟩

theorem toInt_number (n : ℕ) (h : n < 128) (l : Fin (2 ^ 4)) : (k0_pay12 lane16 (BitVec.ofNat 32 n) (ln l)).toInt = ((at16 n h l).val : ℤ) := by
  have hl := l.isLt
  have e : k0_pay12 lane16 (BitVec.ofNat 32 n) (ln l) = BitVec.ofNat 32 (16 * n + l.val) := by
    show BitVec.ofNat 32 n * 16#32 + lane16 (ln l) = _
    have h2 : lane16 (ln l) = BitVec.ofNat 32 l.val := (by decide +kernel : ∀ l : Fin (2 ^ 4), lane16 (ln l) = BitVec.ofNat 32 l.val) l
    rw [h2]
    apply BitVec.eq_of_toNat_eq
    simp only [BitVec.toNat_add, BitVec.toNat_mul, BitVec.toNat_ofNat]
    omega
  rw [e, BitVec.toInt_eq_toNat_of_lt]
  · rw [BitVec.toNat_ofNat, Nat.mod_eq_of_lt (by omega)]
  · rw [BitVec.toNat_ofNat, Nat.mod_eq_of_lt (by omega)]; omega

/-- The pairs of a chunk. -/
theorem chunk_ent (n : ℕ) (h : n < 128) :
    ent (rowDist (F := Ideal) X Y Z Q r ⟨n, h⟩, k0_pay12 lane16 (BitVec.ofNat 32 n))
      = fun l => key (pdist X Y Z Q r (at16 n h l)) (at16 n h l).val := by
  funext l
  unfold ent
  dsimp only
  rw [toInt_number n h l]
  rfl

theorem keys_take (d : Fin 2048 → EReal) (n : ℕ) (h : n < 128) :
    (keys d).take (16 * (n + 1)) = (keys d).take (16 * n) ++ List.ofFn fun l : Fin (2 ^ 4) => key (d (at16 n h l)) (at16 n h l).val := by
  apply List.ext_getElem
  · simp only [keys, List.length_take, List.length_append, List.length_ofFn]; omega
  · intro i h1 h2
    simp only [keys, List.length_take, List.length_ofFn] at h1
    rw [List.getElem_append]
    simp only [keys, List.getElem_take, List.getElem_ofFn, List.length_take, List.length_ofFn]
    split
    · rfl
    · have h3 : ∀ a b : Fin 2048, a = b → key (d a) a.val = key (d b) b.val := by rintro a _ rfl; rfl
      exact h3 _ _ (Fin.ext (by show i = 16 * n + (i - min (16 * n) 2048); omega))

/-- The pairs the kernel starts from. -/
def floor16 : List Key := List.replicate 16 (key ⊤ 0)

theorem start_ent (hinf : Scalar.ofBits (F := Ideal) .f32 0x7F800000#32 = (⊤ : EReal)) :
    List.ofFn (ent (k0_pay3 (F := Ideal), k0_pay4)) = floor16 := by
  have e : ent (k0_pay3 (F := Ideal), k0_pay4) = fun _ => key ⊤ 0 := by
    funext l
    have h3 : k0_pay3 (F := Ideal) = broadcast S16 (Scalar.ofBits .f32 0x7F800000#32) := shapeCast_S16 _
    have h4 : k0_pay4 = broadcast S16 0#32 := shapeCast_S16 _
    rw [h3, h4]
    show key (Scalar.ofBits (F := Ideal) .f32 0x7F800000#32) 0 = _
    rw [hinf]
  rw [e]
  exact List.ofFn_const 16 _

/-- After `n` chunks the kernel holds the sixteen nearest of the first `16 n` points. -/
theorem best_ent (hinf : Scalar.ofBits (F := Ideal) .f32 0x7F800000#32 = (⊤ : EReal)) (n : ℕ) (hn : n ≤ 128) :
    List.ofFn (ent (best (F := Ideal) X Y Z Q r n)) = topList 16 (floor16 ++ (keys (pdist X Y Z Q r)).take (16 * n)) := by
  induction n with
  | zero =>
    show List.ofFn (ent (k0_pay3 (F := Ideal), k0_pay4)) = _
    rw [start_ent hinf, List.take_zero, List.append_nil, topList_eq_self]
    · exact List.pairwise_replicate.mpr (Or.inr (le_refl _))
    · exact le_of_eq List.length_replicate
  | succ n ih =>
    have hn' : n < 128 := by omega
    have ih := ih (by omega)
    have hanti : Antitone (ent (best (F := Ideal) X Y Z Q r n)) := by
      have hp := pairwise_topList 16 (floor16 ++ (keys (pdist X Y Z Q r)).take (16 * n))
      rw [← ih, List.pairwise_ofFn] at hp
      intro i j hij
      rcases lt_or_eq_of_le hij with h | h
      · exact hp h
      · rw [h]
    rw [keys_take _ n hn', ← List.append_assoc, ← topList_append_topList, ← ih, ← chunk_ent X Y Z Q r n hn']
    show List.ofFn (ent (if h : n < 128 then chunk (BitVec.ofNat 32 n) (rowDist (F := Ideal) X Y Z Q r ⟨n, h⟩) (best X Y Z Q r n) else best X Y Z Q r n)) = _
    rw [dif_pos hn']
    generalize hB : best (F := Ideal) X Y Z Q r n = B at *
    have hidx : ∀ l m : Fin (2 ^ 4), (B.2 (ln l)).toInt ≤ (k0_pay12 lane16 (BitVec.ofNat 32 n) (ln m)).toInt := by
      intro l m
      have h2 : ent B l ∈ topList 16 (floor16 ++ (keys (pdist X Y Z Q r)).take (16 * n)) := by
        rw [← ih]; exact (List.mem_ofFn' _ _).mpr ⟨l, rfl⟩
      show idx (ent B l) ≤ _
      rw [toInt_number n hn' m]
      rcases List.mem_append.mp (mem_of_mem_topList h2) with h3 | h3
      · rw [(List.mem_replicate.mp h3).2, idx_key]; omega
      · obtain ⟨i, hi, he⟩ := List.mem_take_iff_getElem.mp h3
        rw [← he]
        simp only [keys, List.getElem_ofFn, idx_key]
        omega
    unfold chunk
    by_cases hc : better (rowDist (F := Ideal) X Y Z Q r ⟨n, hn'⟩) B.1 = 1#1
    · rw [if_pos hc]
      exact merge16_topList B _ hanti hidx
    · rw [if_neg hc, topList_append_of_le, topList_eq_self]
      · rw [List.pairwise_ofFn]; exact fun i j hij => hanti hij.le
      · rw [List.length_ofFn]; exact le_refl _
      · rw [List.length_ofFn]; exact le_refl _
      · intro s hs a ha
        obtain ⟨l, rfl⟩ := (List.mem_ofFn' _ _).mp hs
        obtain ⟨m, rfl⟩ := (List.mem_ofFn' _ _).mp (mem_of_mem_topList ha)
        have hlast : ent B 15 ≤ ent B m := hanti (Fin.le_last (n := 15) m)
        refine le_trans ?_ hlast
        have hle : B.1 (ln 15) ≤ rowDist (F := Ideal) X Y Z Q r ⟨n, hn'⟩ (ln l) := by
          refine le_trans (not_lt.mp fun hlt => hc ?_) (min16_le _ l)
          show BitVec.ofBool (decide (min16 (rowDist (F := Ideal) X Y Z Q r ⟨n, hn'⟩) (ln 0) < B.1 (ln 15))) = 1#1
          rw [decide_eq_true hlt]; rfl
        rcases lt_or_eq_of_le hle with h | h
        · exact key_le.mpr (Or.inl h)
        · exact key_le.mpr (Or.inr ⟨h, hidx _ _⟩)

/-- After all the chunks the lane `l` holds the number of the `l`-th nearest point. -/
theorem best_nbr (hinf : Scalar.ofBits (F := Ideal) .f32 0x7F800000#32 = (⊤ : EReal)) (hd : ∀ i, pdist X Y Z Q r i < ⊤) (l : Fin 16) :
    ((best (F := Ideal) X Y Z Q r 128).2 (ln l)).toInt = nbr (pdist X Y Z Q r) l := by
  have h := best_ent X Y Z Q r hinf 128 (le_refl _)
  rw [List.take_of_length_le (by unfold keys; rw [List.length_ofFn]), floor16, nbrs_of_floor _ hd] at h
  generalize best (F := Ideal) X Y Z Q r 128 = B at h ⊢
  exact nbr_of_ofFn (f := ent B) h l

/-- The kernel's result at an element: the number of the point's neighbour, counted from the batch's first row. -/
theorem scOut_nbr (hinf : Scalar.ofBits (F := Ideal) .f32 0x7F800000#32 = (⊤ : EReal)) (q : Fin 1536) (l : Fin 16) (e : S24576.Idx)
    (he : (e 0).val = 16 * q.val + l.val) (hd : ∀ i, pdist X Y Z Q ⟨512 + q.val, by omega⟩ i < ⊤) :
    scOut (F := Ideal) X Y Z Q e = BitVec.ofInt 32 (nbr (pdist X Y Z Q ⟨512 + q.val, by omega⟩) l) + 14336#32 := by
  have h := best_nbr X Y Z Q ⟨512 + q.val, by omega⟩ hinf hd l
  rw [← h, BitVec.ofInt_toInt]
  unfold scOut
  have h1 : (e 0).val / 16 = q.val := by omega
  have h2 : (e 0).val % 16 = l.val := by omega
  simp only [h1, h2]
  unfold rowOut
  generalize best (F := Ideal) X Y Z Q ⟨512 + q.val, by omega⟩ 128 = B
  rfl

end Chunks

end Cert.Proof

end
-- ==== Proof.Edges.lean ====
module

public import proofs.«01_k».proof.Proof.Near
public import Idealize.ShloMosaic.PureOps.Ideal

@[expose] public section

noncomputable section

namespace Cert.Proof

open Idealize.ShloMosaic

/-! # The edges, said once: both programs compute these -/

/-- The batch, the point and the place of an edge. -/
def eBatch (e : Fin 262144) : Fin 8 := ⟨e.val / 32768, by have := e.isLt; omega⟩
def ePoint (e : Fin 262144) : Fin 2048 := ⟨e.val / 16 % 2048, by omega⟩
def ePlace (e : Fin 262144) : Fin 16 := ⟨e.val % 16, by omega⟩

/-- The squared distance of two points of a batch: the squares' sums less twice the inner product. -/
def dist (A : Fin 8 → Fin 2048 → Fin 3 → EReal) (b : Fin 8) (n j : Fin 2048) : EReal :=
  ((∑ k : Fin 3, A b n k * A b n k) + ∑ k : Fin 3, A b j k * A b j k)
    - Scalar.ofBits (F := Ideal) .f32 0x40000000#32 * ∑ k : Fin 3, A b n k * A b j k

/-- An edge's source, and its target: the batch's first row and the neighbour's number. -/
def source (e : Fin 262144) : BitVec 32 := BitVec.ofNat 32 (e.val / 16)
def target (A : Fin 8 → Fin 2048 → Fin 3 → EReal) (e : Fin 262144) : BitVec 32 :=
  BitVec.ofNat 32 (eBatch e).val * 2048#32 + BitVec.ofInt 32 (nbr (dist A (eBatch e) (ePoint e)) (ePlace e))

end Cert.Proof

end
-- ==== Proof.Layout.lean ====
module

public import proofs.«01_k».proof.Proof.Run
public import proofs.«01_k».proof.Proof.Blocks
public import proofs.«01_k».proof.Proof.Sc
public import proofs.«01_k».proof.Proof.Edges
public import Idealize.ShloMosaic.Lib.IdealHost
public import Idealize.ShloMosaic.Lib.KernelVsHost

@[expose] public section

noncomputable section

namespace Cert.Proof

open Idealize.ShloMosaic
open Cert.KernelIdeal Cert.KernelIdeal.Gen

/-! # The kernel's result, index by index -/

variable (m : (ℓ : Loc nD τ sig) → Buf (Elt Ideal) ℓ) (d : Dev nD)

/-- The points, by batch, number and coordinate. -/
def pts : Fin 8 → Fin 2048 → Fin 3 → EReal := fun b n k => m (aLoc d) (ix3 b n k)

/-! ## What the two kernels read -/

theorem point_cast (b : Fin 8) (n : Fin 2048) (k : Fin 3) (n' : Fin 2048) (k' : Fin 3) (hn : n'.val = n.val) (hk : k'.val = k.val) :
    m (d, Proc.devRef .tc main_arg0) (ix3 b n' k') = pts m d b n k := by
  rw [show n' = n from Fin.ext hn, show k' = k from Fin.ext hk]; rfl

theorem insX_apply (n : Fin 2048) : (ins m).X d (ix1 n) = pts m d 7 n 0 := by
  show valA m d (Proc.devRef .tc main_v7) (ix1 n) = _
  unfold valA
  after_results_simp
  simp only [pointwise]
  exact point_cast m d 7 n 0 _ _ ((Nat.zero_add _).trans (Nat.zero_add _)) rfl

theorem insY_apply (n : Fin 2048) : (ins m).Y d (ix1 n) = pts m d 7 n 1 := by
  show valA m d (Proc.devRef .tc main_v9) (ix1 n) = _
  unfold valA
  after_results_simp
  simp only [pointwise]
  exact point_cast m d 7 n 1 _ _ ((Nat.zero_add _).trans (Nat.zero_add _)) rfl

theorem insZ_apply (n : Fin 2048) : (ins m).Z d (ix1 n) = pts m d 7 n 2 := by
  show valA m d (Proc.devRef .tc main_v11) (ix1 n) = _
  unfold valA
  after_results_simp
  simp only [pointwise]
  exact point_cast m d 7 n 2 _ _ ((Nat.zero_add _).trans (Nat.zero_add _)) rfl

theorem insQ_apply (n : Fin 2048) : ((ins m).Q d (ix1 n) : EReal) = ∑ k : Fin 3, pts m d 7 n k * pts m d 7 n k := by
  show valA m d (Proc.devRef .tc main_v5) (ix1 n) = _
  unfold valA
  after_results_simp
  simp only [pointwise]
  refine (zero_add (M := EReal) _).trans ?_
  exact Finset.sum_congr rfl fun k _ => congrArg₂ (· * ·) (point_cast m d 7 n k _ _ (Nat.zero_add _) (Nat.zero_add _)) (point_cast m d 7 n k _ _ (Nat.zero_add _) (Nat.zero_add _))

theorem valA_arg : valA m d (Proc.devRef .tc main_arg0) = m (aLoc d) := by
  unfold valA
  exact StableHlo.after_of_writes_sub opsA _ opsA_writes (by decide)

theorem padded_apply (b : Fin 8) (n : Fin 2048) (k : Fin 8) : refB m d main_v13 (ix3 b n k) = if h : k.val < 3 then pts m d b n ⟨k.val, h⟩ else 0 := by
  have e : refB m d main_v13 = pad S8x2048x8 ![0, 0, 0] ![0, 0, 5] ![0, 0, 0] (m (aLoc d)) (sitofp (F := Ideal) .f32 (constantI S_ 32 0#32))
      pads_S8x2048x3_S8x2048x8_000_000_050 h_S_ := by
    unfold refB valB
    after_results_simp
    rw [put_ne _ (by decide), valA_arg]
    rfl
  rw [e]
  by_cases h : k.val < 3
  · rw [dif_pos h]
    exact pad_apply_of_inside (s := S8x2048x3) (t := S8x2048x8) _ _ _ _ _ _ _ _ (ix3 b n ⟨k.val, h⟩) (fun a => by
      match a with
      | ⟨0, _⟩ => show b.val = 0 + b.val * (0 + 1); omega
      | ⟨1, _⟩ => show n.val = 0 + n.val * (0 + 1); omega
      | ⟨2, _⟩ => show k.val = 0 + k.val * (0 + 1); omega)
  · rw [dif_neg h]
    refine (pad_apply_of_not_inside (s := S8x2048x3) (t := S8x2048x8) _ _ _ _ _ _ _ _ 2 (fun hk => h ?_)).trans ?_
    · have := hk.2.2
      change (k.val - 0) / (0 + 1) < 3 at this
      omega
    · show (((0#32 : BitVec 32).toInt : ℝ) : EReal) = 0
      simp

theorem turned_apply (b : Fin 8) (n : Fin 2048) (k : Fin 8) : refB m d main_v14 (ix3 b k n) = refB m d main_v13 (ix3 b n k) := by
  unfold refB valB
  after_results_simp
  simp only [pointwise]

theorem valB_sc : valB m d (Proc.devRef .tc main_v12) = scVal m d := by
  unfold valB
  rw [StableHlo.after_of_writes_sub opsB _ opsB_writes (by decide), Function.update_self]

/-! ## The result -/

def srcRow : (⟨S262144, .i32⟩ : BufTy).Contents (Elt Ideal) :=
  shapeCast S262144 (broadcastInDim S16384x16 ![0, 1] bcast_S16384x1_S16384x16_0_1 (shapeCast S16384x1 (iotaInDim S16384 32 0) shapeCasts_S16384_S16384x1)) shapeCasts_S16384x16_S262144

theorem srcRow_apply (e : Fin 262144) : srcRow (ix1 e) = source e := by
  unfold srcRow
  simp only [pointwise]
  rfl

def tgtRow : (⟨S262144, .i32⟩ : BufTy).Contents (Elt Ideal) :=
  joined (F := Ideal) (extractStridedSlice S237568 ![0] (shapeCast S262144 (tcVal m d) shapeCasts_S8x2048x16_S262144) slices_S262144_S237568_0) (scVal m d)

theorem outVal_eq : outVal m d = stacked (F := Ideal) (broadcastInDim S1x262144 ![1] bcast_S262144_S1x262144_1 srcRow) (broadcastInDim S1x262144 ![1] bcast_S262144_S1x262144_1 (tgtRow m d)) := by
  unfold outVal valC tgtRow srcRow
  after_results_simp
  rw [Function.update_self, put_ne _ (by decide), valB_sc]
  rfl

theorem out_source (e : Fin 262144) : outVal m d (ix2 0 e) = source e := by
  rw [outVal_eq, ← srcRow_apply]
  unfold stacked
  refine (concatenate_pair_apply_left (t := S2x262144) (s₁ := S1x262144) (s₂ := S1x262144) 0 _ _ _ (ix2 0 e) rfl (ix2 0 e) (fun b => by
      match b with
      | ⟨0, _⟩ => rfl
      | ⟨1, _⟩ => rfl)).trans ?_
  simp only [pointwise]
  rfl

theorem out_target (e : Fin 262144) : outVal m d (ix2 1 e) = tgtRow m d (ix1 e) := by
  rw [outVal_eq]
  unfold stacked
  refine (concatenate_pair_apply_right (t := S2x262144) (s₁ := S1x262144) (s₂ := S1x262144) 0 _ _ _ (ix2 1 e) rfl rfl (ix2 0 e) (fun b hb => by
      match b with
      | ⟨0, _⟩ => exact absurd rfl hb
      | ⟨1, _⟩ => rfl) rfl).trans ?_
  simp only [pointwise]
  rfl

theorem tgtRow_low (e : Fin 262144) (h : e.val < 237568) : tgtRow m d (ix1 e) = tcVal m d (ix3 (eBatch e) (ePoint e) (ePlace e)) := by
  unfold tgtRow joined
  refine (concatenate_pair_apply_left (t := S262144) (s₁ := S237568) (s₂ := S24576) 0 _ _ _ (ix1 e) rfl (ix1 ⟨e.val, h⟩) (fun b => by
      match b with
      | ⟨0, _⟩ => rfl)).trans ?_
  simp only [pointwise]
  congr 1
  have := e.isLt
  unfold eBatch ePoint ePlace
  congr 1 <;> apply Fin.ext <;> simp

theorem tgtRow_high (e : Fin 262144) (h : 237568 ≤ e.val) : tgtRow m d (ix1 e) = scVal m d (ix1 ⟨e.val - 237568, by have := e.isLt; omega⟩) := by
  unfold tgtRow joined
  exact concatenate_pair_apply_right (t := S262144) (s₁ := S237568) (s₂ := S24576) 0 _ _ _ (ix1 e) rfl rfl (ix1 ⟨e.val - 237568, by have := e.isLt; omega⟩) (fun b hb => by
      match b with
      | ⟨0, _⟩ => exact absurd rfl hb) (Nat.sub_add_cancel h)

/-! ## The distances -/

theorem tdist_eq (b : Fin 8) (n j : Fin 2048) : tdist (refB m d main_v13) (refB m d main_v14) b n j = dist (pts m d) b n j := by
  unfold tdist dist
  simp only [turned_apply, padded_apply, Fin.sum_univ_eight, Fin.sum_univ_three]
  simp

theorem pdist_eq (q : Fin 2048) (j : Fin 2048) : pdist ((ins m).X d) ((ins m).Y d) ((ins m).Z d) ((ins m).Q d) q j = dist (pts m d) 7 q j := by
  have hp : ∀ r : Fin 2048, pt r = ix1 r := fun r => funext fun a => match a with | ⟨0, _⟩ => rfl
  unfold pdist dist
  rw [hp, hp]
  rw [Fin.sum_univ_three (f := fun k => pts m d 7 q k * pts m d 7 j k), ← insQ_apply, ← insQ_apply, ← insX_apply, ← insX_apply, ← insY_apply, ← insY_apply, ← insZ_apply, ← insZ_apply]

/-- Distances of finite points are finite. -/
theorem dist_lt_top {A : Fin 8 → Fin 2048 → Fin 3 → EReal} (h : ∀ b n k, ∃ x : ℝ, A b n k = (x : EReal)) (b : Fin 8) (n j : Fin 2048) : dist A b n j < ⊤ := by
  choose f hf using h
  have e : dist A b n j = ((((∑ k : Fin 3, f b n k * f b n k) + ∑ k : Fin 3, f b j k * f b j k) - 2 * ∑ k : Fin 3, f b n k * f b j k : ℝ) : EReal) := by
    unfold dist
    simp only [hf, lit_two, Fin.sum_univ_three]
    push_cast
    rfl
  rw [e]
  exact EReal.coe_lt_top _

theorem tgtRow_apply (h : ∀ b n k, ∃ x : ℝ, pts m d b n k = (x : EReal)) (e : Fin 262144) : tgtRow m d (ix1 e) = target (pts m d) e := by
  have he := e.isLt
  by_cases hl : e.val < 237568
  · rw [tgtRow_low m d e hl]
    have hd : tdist (refB m d main_v13) (refB m d main_v14) (eBatch e) (ePoint e) = dist (pts m d) (eBatch e) (ePoint e) := funext fun j => tdist_eq m d _ _ j
    refine (found_nbr (refB m) d (eBatch e) (ePoint e) ?_ (ePlace e) fun j => ?_).trans ?_
    · show 2048 * (e.val / 32768) + e.val / 16 % 2048 < 14848
      omega
    · rw [hd]; exact dist_lt_top h _ _ _
    · rw [hd]
      exact BitVec.add_comm _ _
  · rw [tgtRow_high m d e (by omega)]
    let q : Fin 1536 := ⟨(e.val - 237568) / 16, by omega⟩
    have hq : (⟨512 + q.val, by have := q.isLt; omega⟩ : Fin 2048) = ePoint e := Fin.ext (by show 512 + (e.val - 237568) / 16 = e.val / 16 % 2048; omega)
    have hb : eBatch e = 7 := Fin.ext (by show e.val / 32768 = 7; omega)
    have hd : pdist ((ins m).X d) ((ins m).Y d) ((ins m).Z d) ((ins m).Q d) ⟨512 + q.val, by have := q.isLt; omega⟩ = dist (pts m d) (eBatch e) (ePoint e) := by
      rw [hq, hb]; exact funext fun j => pdist_eq m d _ j
    refine (scOut_nbr ((ins m).X d) ((ins m).Y d) ((ins m).Z d) ((ins m).Q d) lit_inf q (ePlace e) _ ?_ fun i => ?_).trans ?_
    · show e.val - 237568 = 16 * ((e.val - 237568) / 16) + e.val % 16
      omega
    · rw [hd]; exact dist_lt_top h _ _ _
    · rw [hd]
      unfold target
      rw [hb]
      exact BitVec.add_comm _ _

end Cert.Proof

end
-- ==== Proof.Ref.lean ====
module

public import proofs.«01_k».proof.Proof.Edges
public import proofs.«01_k».proof.Proof.Gen.ReferenceIdeal.Run
public import Idealize.ShloMosaic.Lib.Pointwise
public import Idealize.ShloMosaic.Lib.IdealHost
public import Idealize.ShloMosaic.Lib.KernelVsHost

@[expose] public section

noncomputable section

namespace Cert.Proof.Ref

open Idealize.ShloMosaic
open Cert.ReferenceIdeal Cert.ReferenceIdeal.Gen

/-! # The reference's result, index by index -/

variable (A : (⟨S8x2048x3, .f32⟩ : BufTy).Contents (Elt Ideal))

/-- The points, by batch, number and coordinate. -/
abbrev pts : Fin 8 → Fin 2048 → Fin 3 → EReal := fun b n k => A (ix3 b n k)

/-- The squares' sums. -/
def squares : (⟨S8x2048, .f32⟩ : BufTy).Contents (Elt Ideal) :=
  Host.reduceAdd (mulf (F := Ideal) (φ := .f32) A A) (constant (F := Ideal) S_ .f32 0x00000000#32) reducesTo_S8x2048x3_S8x2048_d2 h_S_
/-- The inner products. -/
def inners : (⟨S8x2048x2048, .f32⟩ : BufTy).Contents (Elt Ideal) :=
  Host.dotGeneral (F := Ideal) (φ₁ := .f32) (φ₂ := .f32) dot_S8x2048x3_S8x2048x3_S8x2048x2048_2_2_1_1_0_0 none A A

theorem squares_apply (b : Fin 8) (n : Fin 2048) : squares A (ix2 b n) = ∑ k : Fin 3, A (ix3 b n k) * A (ix3 b n k) := by
  unfold squares
  simp only [pointwise]
  rw [zero_add]

theorem inners_apply (b : Fin 8) (n j : Fin 2048) : inners A (ix3 b n j) = ∑ k : Fin 3, A (ix3 b n k) * A (ix3 b j k) := by
  unfold inners
  simp only [pointwise]
  rw [zero_add]

/-- The distances. -/
def dists : (⟨S8x2048x2048, .f32⟩ : BufTy).Contents (Elt Ideal) :=
  subf (F := Ideal) (φ := .f32) (addf (F := Ideal) (φ := .f32) (broadcastInDim S8x2048x2048 ![0, 1, 2] bcast_S8x2048x1_S8x2048x2048_0_1_2 (broadcastInDim S8x2048x1 ![0, 1] bcast_S8x2048_S8x2048x1_0_1 (squares A)))
      (broadcastInDim S8x2048x2048 ![0, 1, 2] bcast_S8x1x2048_S8x2048x2048_0_1_2 (broadcastInDim S8x1x2048 ![0, 2] bcast_S8x2048_S8x1x2048_0_2 (squares A))))
    (mulf (F := Ideal) (φ := .f32) (broadcastInDim S8x2048x2048 ![] bcast_S_S8x2048x2048 (constant (F := Ideal) S_ .f32 0x40000000#32)) (inners A))

theorem dists_apply (b : Fin 8) (n j : Fin 2048) : dists A (ix3 b n j) = dist (pts A) b n j := by
  have e : dist (pts A) b n j = (squares A (ix2 b n) + squares A (ix2 b j)) - Scalar.ofBits (F := Ideal) .f32 0x40000000#32 * inners A (ix3 b n j) := by
    rw [squares_apply, squares_apply, inners_apply]; rfl
  rw [e]
  unfold dists
  simp only [pointwise]
  rfl

/-- The numbers of the sixteen nearest. -/
def nearests : (⟨S8x2048x16, .i32⟩ : BufTy).Contents (Elt Ideal) :=
  (Host.topK S8x2048x16 2 (FloatOps.cmpfTotal (F := Ideal) (φ := .f32) .gt) (Host.negf (F := Ideal) (φ := .f32) (dists A)) sliceFits_S8x2048x2048_S8x2048x16).2

theorem along_ix3 (b : Fin 8) (n j k : Fin 2048) : (ix3 b n j : S8x2048x2048.Idx).along 2 k = ix3 b n k := by
  funext a
  match a with
  | ⟨0, _⟩ => rfl
  | ⟨1, _⟩ => rfl
  | ⟨2, _⟩ => rfl

theorem nearests_apply (b : Fin 8) (n : Fin 2048) (k : Fin 16) :
    nearests A (ix3 b n k) = BitVec.ofInt 32 (nbr (dist (pts A) b n) k) := by
  let before : Fin 2048 → Fin 2048 → Bool := fun u v =>
    FloatOps.cmpfTotal (F := Ideal) (φ := .f32) .gt (Host.negf (F := Ideal) (φ := .f32) (dists A) ((ix3 b n ⟨k.val, by have := k.isLt; omega⟩ : S8x2048x2048.Idx).along 2 u))
      (Host.negf (F := Ideal) (φ := .f32) (dists A) ((ix3 b n ⟨k.val, by have := k.isLt; omega⟩ : S8x2048x2048.Idx).along 2 v)) == 1#1
  have hb : ∀ u v, before u v = true ↔ dist (pts A) b n u < dist (pts A) b n v := by
    intro u v
    show (BitVec.ofBool (decide (-(dists A ((ix3 b n ⟨k.val, _⟩ : S8x2048x2048.Idx).along 2 u)) > -(dists A ((ix3 b n ⟨k.val, _⟩ : S8x2048x2048.Idx).along 2 v)))) == 1#1) = true ↔ _
    rw [along_ix3, along_ix3, dists_apply, dists_apply]
    by_cases hlt : dist (pts A) b n u < dist (pts A) b n v
    · rw [decide_eq_true (EReal.neg_lt_neg_iff.mpr hlt)]
      exact ⟨fun _ => hlt, fun _ => rfl⟩
    · rw [decide_eq_false (fun h => hlt (EReal.neg_lt_neg_iff.mp h))]
      exact ⟨fun h => absurd h (by decide), fun h => absurd h hlt⟩
  have h := nbrs_of_sort (dist (pts A) b n) before hb k
  rw [← h]
  unfold nearests Host.topK
  dsimp only
  refine (extractStridedSlice_apply _ _ _ _ (ix3 b n ⟨k.val, by have := k.isLt; omega⟩) (fun a => by
    match a with
    | ⟨0, _⟩ => exact (Nat.zero_add _).symm
    | ⟨1, _⟩ => exact (Nat.zero_add _).symm
    | ⟨2, _⟩ => exact (Nat.zero_add _).symm)).trans ?_
  rw [BitVec.ofInt_natCast]
  have e : Host.sort2 S8x2048x2048 2 (fun l r => FloatOps.cmpfTotal (F := Ideal) (φ := .f32) .gt l.1 r.1) (Host.negf (F := Ideal) (φ := .f32) (dists A))
      (iotaInDim S8x2048x2048 32 2)
      = (fun j => Host.negf (F := Ideal) (φ := .f32) (dists A) (j.along 2 (sortedFrom (fun u v => FloatOps.cmpfTotal (F := Ideal) (φ := .f32) .gt (Host.negf (F := Ideal) (φ := .f32) (dists A) (j.along 2 u)) (Host.negf (F := Ideal) (φ := .f32) (dists A) (j.along 2 v)) == 1#1) (j 2))),
        fun j => iotaInDim S8x2048x2048 32 2 (j.along 2 (sortedFrom (fun u v => FloatOps.cmpfTotal (F := Ideal) (φ := .f32) .gt (Host.negf (F := Ideal) (φ := .f32) (dists A) (j.along 2 u)) (Host.negf (F := Ideal) (φ := .f32) (dists A) (j.along 2 v)) == 1#1) (j 2)))) := by
    unfold Host.sort2
    exact dif_pos (by decide)
  refine (congrFun (congrArg Prod.snd e) _).trans ?_
  dsimp only
  unfold iotaInDim
  exact congrArg (fun u : Fin 2048 => BitVec.ofNat 32 u.val) (Function.update_self _ _ _)

/-! ## The two rows of the result -/

/-- Each batch's first row. -/
def firsts : (⟨S8x1x1, .i32⟩ : BufTy).Contents (Elt Ideal) :=
  muli (shapeCast _ (iotaInDim S8 32 0) shapeCasts_S8_S8x1x1) (broadcastInDim S8x1x1 ![] bcast_S_S8x1x1 (constantI S_ 32 2048#32))

theorem firsts_apply (b : Fin 8) : firsts (ix3 b 0 0) = BitVec.ofNat 32 b.val * 2048#32 := by
  unfold firsts
  simp only [pointwise]
  rfl

def sources3 : (⟨S8x2048x16, .i32⟩ : BufTy).Contents (Elt Ideal) :=
  broadcastInDim S8x2048x16 ![0, 1, 2] bcast_S8x2048x1_S8x2048x16_0_1_2 (addi (broadcastInDim S8x2048x1 ![0, 1, 2] bcast_S8x1x1_S8x2048x1_0_1_2 firsts)
    (broadcastInDim S8x2048x1 ![0, 1, 2] bcast_S1x2048x1_S8x2048x1_0_1_2 (shapeCast _ (iotaInDim S2048 32 0) shapeCasts_S2048_S1x2048x1)))

theorem sources3_apply (b : Fin 8) (n : Fin 2048) (k : Fin 16) : sources3 (ix3 b n k) = BitVec.ofNat 32 b.val * 2048#32 + BitVec.ofNat 32 n.val := by
  rw [← firsts_apply]
  unfold sources3
  simp only [pointwise]
  rfl

def targets3 : (⟨S8x2048x16, .i32⟩ : BufTy).Contents (Elt Ideal) :=
  addi (broadcastInDim S8x2048x16 ![0, 1, 2] bcast_S8x1x1_S8x2048x16_0_1_2 firsts) (nearests A)

theorem targets3_apply (b : Fin 8) (n : Fin 2048) (k : Fin 16) : targets3 A (ix3 b n k) = BitVec.ofNat 32 b.val * 2048#32 + BitVec.ofInt 32 (nbr (dist (pts A) b n) k) := by
  rw [← firsts_apply, ← nearests_apply]
  unfold targets3
  simp only [pointwise]
  rfl

/-- One number per edge, in a line. -/
def flat (v : (⟨S8x2048x16, .i32⟩ : BufTy).Contents (Elt Ideal)) : (⟨S1x262144, .i32⟩ : BufTy).Contents (Elt Ideal) :=
  broadcastInDim S1x262144 ![1] bcast_S262144_S1x262144_1 (shapeCast S262144 v shapeCasts_S8x2048x16_S262144)

theorem flat_apply (v : (⟨S8x2048x16, .i32⟩ : BufTy).Contents (Elt Ideal)) (e : Fin 262144) : flat v (ix2 0 e) = v (ix3 (eBatch e) (ePoint e) (ePlace e)) := by
  unfold flat
  simp only [pointwise]
  rfl

/-- The whole result. -/
def out : (⟨S2x262144, .i32⟩ : BufTy).Contents (Elt Ideal) :=
  concatenate S2x262144 0 [⟨S1x262144, flat sources3⟩, ⟨S1x262144, flat (targets3 A)⟩] concatenates_S1x262144_S1x262144_S2x262144_d0

theorem out_source (e : Fin 262144) : out A (ix2 0 e) = source e := by
  have h : out A (ix2 0 e) = flat sources3 (ix2 0 e) :=
    concatenate_pair_apply_left (t := S2x262144) (s₁ := S1x262144) (s₂ := S1x262144) 0 (flat sources3) (flat (targets3 A)) _ (ix2 0 e) rfl (ix2 0 e) (fun b => by
      match b with
      | ⟨0, _⟩ => rfl
      | ⟨1, _⟩ => rfl)
  rw [h, flat_apply, sources3_apply]
  apply BitVec.eq_of_toNat_eq
  have := e.isLt
  simp only [source, eBatch, ePoint, BitVec.toNat_add, BitVec.toNat_mul, BitVec.toNat_ofNat]
  omega

theorem out_target (e : Fin 262144) : out A (ix2 1 e) = target (pts A) e := by
  have h : out A (ix2 1 e) = flat (targets3 A) (ix2 0 e) :=
    concatenate_pair_apply_right (t := S2x262144) (s₁ := S1x262144) (s₂ := S1x262144) 0 (flat sources3) (flat (targets3 A)) _ (ix2 1 e) rfl rfl (ix2 0 e) (fun b hb => by
      match b with
      | ⟨0, _⟩ => exact absurd rfl hb
      | ⟨1, _⟩ => rfl) rfl
  rw [h, flat_apply, targets3_apply]
  rfl

open Idealize.SL.Sem in
/-- The run of the reference leaves that result. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = out (m ((c.tc : Thread nD τ).loc main_arg0))
      ∧ r.2.mem ((c.tc : Thread nD τ).loc main_arg0) = m ((c.tc : Thread nD τ).loc main_arg0) :=
  Value.run m ρ

end Cert.Proof.Ref

end
-- ==== Proof.Value.lean ====
module

public import proofs.«01_k».proof.Defs
public import proofs.«01_k».proof.Proof.Layout
public import proofs.«01_k».proof.Proof.Ref
public import proofs.«01_k».proof.Proof.Gen.Pre_finite
public import Idealize.ShloMosaic.Lib.ReduceAll

@[expose] public section

noncomputable section

/-! The kernel's result and the reference's are equal, entry by entry, wherever the points are finite. -/

namespace Cert.Proof

open Idealize.ShloMosaic Idealize.SL.Sem Cert.KernelIdeal

/-- An extended real whose absolute value is below infinity is a real number. -/
theorem real_of_abs_lt (x : EReal) (h : max x (-x) < ⊤) : ∃ r : ℝ, x = (r : EReal) := by
  induction x with
  | bot => exact absurd h (by simp)
  | coe r => exact ⟨r, rfl⟩
  | top => exact absurd h (by simp)

/-- Where the precondition's function answers one, every coordinate is a real number. -/
theorem real_of_finite (A : FVec Ideal Cert.Pre_finite.S8x2048x3 .f32) (h : @Cert.Pre_finite.fn Cert.Pre_finite.Gen.facts Ideal _ A = fun _ => 1#1)
    (i : Cert.Pre_finite.S8x2048x3.Idx) : ∃ r : ℝ, (A i : EReal) = (r : EReal) := by
  haveI : Subsingleton Cert.Pre_finite.S_.Idx := ⟨fun a b => funext fun k => k.elim0⟩
  have e := Host.reduce_andi_all _ _ _ _ (fun k => k.elim0) (congrFun h (fun k => k.elim0)) i
  have e' : Ideal.cmp .olt (max (A i : EReal) (-(A i : EReal))) (Ideal.ofBits .f32 0x7F800000#32) = 1#1 := e
  have top : Ideal.ofBits .f32 0x7F800000#32 = (⊤ : EReal) := lit_inf
  rw [top] at e'
  refine real_of_abs_lt _ ?_
  by_contra hn
  unfold Ideal.cmp at e'
  simp [hn] at e'

/-- On finite points the kernel's whole result is the reference's. -/
theorem result_eq (m : (ℓ : Loc nD τ sig) → Buf (Elt Ideal) ℓ) (d : Dev nD) (h : ∀ b n k, ∃ x : ℝ, pts m d b n k = (x : EReal)) :
    outVal m d = Ref.out (m (aLoc d)) := by
  funext i
  obtain ⟨r, e, rfl⟩ : ∃ (r : Fin 2) (e : Fin 262144), i = ix2 r e := ⟨i 0, i 1, funext fun a => match a with | ⟨0, _⟩ => rfl | ⟨1, _⟩ => rfl⟩
  match r with
  | 0 => exact (out_source m d e).trans (Ref.out_source _ e).symm
  | 1 => exact ((out_target m d e).trans (tgtRow_apply m d h e)).trans (Ref.out_target _ e).symm

/-- The kernel and the reference, read at the extended reals and run on the same finite points, leave the same result. -/
theorem same_value : @Cert.algebraic_KernelIdeal_ReferenceIdeal_pre_finite Cert.KernelIdeal.Gen.facts Cert.ReferenceIdeal.Gen.facts Cert.Pre_finite.Gen.facts := by
  intro m ρ m' ρ' hm hs
  refine ⟨fun c => outVal m c, ?_, ?_⟩
  · exact (θ_run (defs (F := Ideal)) _ _).mono (fun _ h c => ⟨(h.1 c).2, (h.1 c).1⟩) (run_main (F := Ideal) m ρ)
  · refine (θ_run (Cert.ReferenceIdeal.defs (F := Ideal)) _ _).mono (fun _ h c => ⟨(h c).1.trans ?_, (h c).2⟩) (Ref.run_out m' ρ')
    rw [hs c]
    exact (result_eq m c fun b n k => real_of_finite _ (hm c) (ix3 b n k)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial, trivial, same_value⟩

end Cert.Proof

end
